-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served_KernelIdeal [hPre_served_KernelIdeal : Cert.Pre_served_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served_ReferenceIdeal [hPre_served_ReferenceIdeal : Cert.Pre_served_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_served_KernelIdeal [hKernelIdeal : Cert.KernelIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_served_ReferenceIdeal [hReferenceIdeal : Cert.ReferenceIdeal.Facts] [hPre_served_ReferenceIdeal : Cert.Pre_served_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_served_KernelIdeal [hKernelIdeal : Cert.KernelIdeal.Facts] [hReferenceIdeal : Cert.ReferenceIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![64, 16, 8, 64]⟩ ⟨4, ![128, 16, 8, 64]⟩ (Layout.meshBlock [2, 2] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![64, 16, 8, 64]⟩ ⟨4, ![128, 16, 8, 64]⟩ (Layout.meshBlock [2, 2] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v25) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_served_KernelIdeal : Cert.Pre_served_KernelIdeal.Facts) (hPre_served_ReferenceIdeal : Cert.Pre_served_ReferenceIdeal.Facts),
    quiescent_Kernel (hKernel := hKernel)
    ∧ quiescent_KernelIdeal (hKernelIdeal := hKernelIdeal)
    ∧ quiescent_KernelIdeal_pre_served_KernelIdeal (hKernelIdeal := hKernelIdeal) (hPre_served_KernelIdeal := hPre_served_KernelIdeal)
    ∧ quiescent_ReferenceIdeal (hReferenceIdeal := hReferenceIdeal)
    ∧ quiescent_ReferenceIdeal_pre_served_ReferenceIdeal (hReferenceIdeal := hReferenceIdeal) (hPre_served_ReferenceIdeal := hPre_served_ReferenceIdeal)
    ∧ preserves_Kernel_KernelIdeal
    ∧ algebraic_KernelIdeal_ReferenceIdeal_pre_served_KernelIdeal (hKernelIdeal := hKernelIdeal) (hReferenceIdeal := hReferenceIdeal) (hPre_served_KernelIdeal := hPre_served_KernelIdeal)
-- ==== Pre_served_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8x1 : Shape := ⟨2, ![8, 1]⟩
abbrev S_ : Shape := ⟨0, ![]⟩

class Facts : Prop where
  bcast_S8x1_S8x64_0_1 : S8x1.BroadcastsInDim S8x64 (![0, 1] : Fin 2 → Fin S8x64.rank)
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  h_S_ : 0 < S_.numel
  bcast_S_S64x16x8x64 : S_.BroadcastsInDim S64x16x8x64 (![] : Fin 0 → Fin S64x16x8x64.rank)
  reducesTo_S64x16x8x64_S_d0_1_2_3 : S64x16x8x64.ReducesTo [0, 1, 2, 3] S_
  bcast_S_S8x1 : S_.BroadcastsInDim S8x1 (![] : Fin 0 → Fin S8x1.rank)
  reducesTo_S8x1_S_d0_1 : S8x1.ReducesTo [0, 1] S_
  bcast_S_S8x64 : S_.BroadcastsInDim S8x64 (![] : Fin 0 → Fin S8x64.rank)
  reducesTo_S8x64_S_d0_1 : S8x64.ReducesTo [0, 1] S_

variable [Facts]

def fn_where {F : FTy → Type} [FloatOps F] (arg0 : IVec S8x64 1) (arg1 : IVec S8x64 1) (arg2 : IVec S_ 1) : IVec S8x64 1 :=
  let v0 : IVec S8x64 1 := broadcastInDim S8x64 ![] bcast_S_S8x64 arg2
  let v1 : IVec S8x64 1 := select arg0 arg1 v0
  v1

def fn_part1 {F : FTy → Type} [FloatOps F] (main_arg3 : IVec S8x64 32) (main_v2 : IVec S8x64 1) (main_v15 : IVec S_ 1) (main_v16 : IVec S8x64 32) : IVec S_ 1 :=
  let main_v17 : IVec S8x64 1 := cmpi .sge main_arg3 main_v16
  let main_c_5 : IVec S_ 32 := constantI S_ 32 128#32
  let main_v18 : IVec S8x64 32 := broadcastInDim S8x64 ![] bcast_S_S8x64 main_c_5
  let main_v19 : IVec S8x64 1 := cmpi .slt main_arg3 main_v18
  let main_v20 : IVec S8x64 1 := andi main_v17 main_v19
  let main_c_6 : IVec S_ 1 := constantI S_ 1 1#1
  let main_v21 : IVec S8x64 1 := fn_where (F := F) main_v2 main_v20 main_c_6
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v15 main_v22
  main_v23

def fn {F : FTy → Type} [FloatOps F] (main_arg0 : FVec F S8x1x8x64 .f32) (main_arg1 : FVec F S64x16x8x64 .f32) (main_arg2 : FVec F S64x16x8x64 .f32) (main_arg3 : IVec S8x64 32) (main_arg4 : IVec S8x1 32) : IVec S_ 1 :=
  let main_v0 : IVec S8x64 32 := iotaInDim S8x64 32 1
  let main_v1 : IVec S8x64 32 := broadcastInDim S8x64 ![0, 1] bcast_S8x1_S8x64_0_1 main_arg4
  let main_v2 : IVec S8x64 1 := cmpi .slt main_v0 main_v1
  let main_v3 : FVec F S8x1x8x64 .f32 := Host.absf main_arg0
  let main_cst : FVec F S_ .f32 := constant S_ .f32 0x7F800000#32
  let main_v4 : FVec F S8x1x8x64 .f32 := broadcastInDim S8x1x8x64 ![] bcast_S_S8x1x8x64 main_cst
  let main_v5 : IVec S8x1x8x64 1 := cmpf .olt main_v3 main_v4
  let main_c : IVec S_ 1 := constantI S_ 1 1#1
  let main_v6 : IVec S_ 1 := (fun x v => Host.reduce IntOp.andi x v reducesTo_S8x1x8x64_S_d0_1_2_3 h_S_) main_v5 main_c
  let main_v7 : FVec F S64x16x8x64 .f32 := Host.absf main_arg1
  let main_cst_0 : FVec F S_ .f32 := constant S_ .f32 0x7F800000#32
  let main_v8 : FVec F S64x16x8x64 .f32 := broadcastInDim S64x16x8x64 ![] bcast_S_S64x16x8x64 main_cst_0
  let main_v9 : IVec S64x16x8x64 1 := cmpf .olt main_v7 main_v8
  let main_c_1 : IVec S_ 1 := constantI S_ 1 1#1
  let main_v10 : IVec S_ 1 := (fun x v => Host.reduce IntOp.andi x v reducesTo_S64x16x8x64_S_d0_1_2_3 h_S_) main_v9 main_c_1
  let main_v11 : IVec S_ 1 := andi main_v6 main_v10
  let main_c_2 : IVec S_ 32 := constantI S_ 32 1#32
  let main_v12 : IVec S8x1 32 := broadcastInDim S8x1 ![] bcast_S_S8x1 main_c_2
  let main_v13 : IVec S8x1 1 := cmpi .sge main_arg4 main_v12
  let main_c_3 : IVec S_ 1 := constantI S_ 1 1#1
  let main_v14 : IVec S_ 1 := (fun x v => Host.reduce IntOp.andi x v reducesTo_S8x1_S_d0_1 h_S_) main_v13 main_c_3
  let main_v15 : IVec S_ 1 := andi main_v11 main_v14
  let main_c_4 : IVec S_ 32 := constantI S_ 32 0#32
  let main_v16 : IVec S8x64 32 := broadcastInDim S8x64 ![] bcast_S_S8x64 main_c_4
  fn_part1 (F := F) main_arg3 main_v2 main_v15 main_v16
-- ==== Pre_served_ReferenceIdeal.lean ====
abbrev S8x1x8x64 : Shape := ⟨4, ![8, 1, 8, 64]⟩
abbrev S128x16x8x64 : Shape := ⟨4, ![128, 16, 8, 64]⟩
abbrev S8x64 : Shape := ⟨2, ![8, 64]⟩
abbrev S8x1 : Shape := ⟨2, ![8, 1]⟩
abbrev S_ : Shape := ⟨0, ![]⟩

class Facts : Prop where
  bcast_S8x1_S8x64_0_1 : S8x1.BroadcastsInDim S8x64 (![0, 1] : Fin 2 → Fin S8x64.rank)
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  h_S_ : 0 < S_.numel
  bcast_S_S128x16x8x64 : S_.BroadcastsInDim S128x16x8x64 (![] : Fin 0 → Fin S128x16x8x64.rank)
  reducesTo_S128x16x8x64_S_d0_1_2_3 : S128x16x8x64.ReducesTo [0, 1, 2, 3] S_
  bcast_S_S8x1 : S_.BroadcastsInDim S8x1 (![] : Fin 0 → Fin S8x1.rank)
  reducesTo_S8x1_S_d0_1 : S8x1.ReducesTo [0, 1] S_
  bcast_S_S8x64 : S_.BroadcastsInDim S8x64 (![] : Fin 0 → Fin S8x64.rank)
  reducesTo_S8x64_S_d0_1 : S8x64.ReducesTo [0, 1] S_

variable [Facts]

def fn_where {F : FTy → Type} [FloatOps F] (arg0 : IVec S8x64 1) (arg1 : IVec S8x64 1) (arg2 : IVec S_ 1) : IVec S8x64 1 :=
  let v0 : IVec S8x64 1 := broadcastInDim S8x64 ![] bcast_S_S8x64 arg2
  let v1 : IVec S8x64 1 := select arg0 arg1 v0
  v1

def fn_part1 {F : FTy → Type} [FloatOps F] (main_arg3 : IVec S8x64 32) (main_v2 : IVec S8x64 1) (main_v15 : IVec S_ 1) (main_v16 : IVec S8x64 32) : IVec S_ 1 :=
  let main_v17 : IVec S8x64 1 := cmpi .sge main_arg3 main_v16
  let main_c_5 : IVec S_ 32 := constantI S_ 32 128#32
  let main_v18 : IVec S8x64 32 := broadcastInDim S8x64 ![] bcast_S_S8x64 main_c_5
  let main_v19 : IVec S8x64 1 := cmpi .slt main_arg3 main_v18
  let main_v20 : IVec S8x64 1 := andi main_v17 main_v19
  let main_c_6 : IVec S_ 1 := constantI S_ 1 1#1
  let main_v21 : IVec S8x64 1 := fn_where (F := F) main_v2 main_v20 main_c_6
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v15 main_v22
  main_v23

def fn {F : FTy → Type} [FloatOps F] (main_arg0 : FVec F S8x1x8x64 .f32) (main_arg1 : FVec F S128x16x8x64 .f32) (main_arg2 : FVec F S128x16x8x64 .f32) (main_arg3 : IVec S8x64 32) (main_arg4 : IVec S8x1 32) : IVec S_ 1 :=
  let main_v0 : IVec S8x64 32 := iotaInDim S8x64 32 1
  let main_v1 : IVec S8x64 32 := broadcastInDim S8x64 ![0, 1] bcast_S8x1_S8x64_0_1 main_arg4
  let main_v2 : IVec S8x64 1 := cmpi .slt main_v0 main_v1
  let main_v3 : FVec F S8x1x8x64 .f32 := Host.absf main_arg0
  let main_cst : FVec F S_ .f32 := constant S_ .f32 0x7F800000#32
  let main_v4 : FVec F S8x1x8x64 .f32 := broadcastInDim S8x1x8x64 ![] bcast_S_S8x1x8x64 main_cst
  let main_v5 : IVec S8x1x8x64 1 := cmpf .olt main_v3 main_v4
  let main_c : IVec S_ 1 := constantI S_ 1 1#1
  let main_v6 : IVec S_ 1 := (fun x v => Host.reduce IntOp.andi x v reducesTo_S8x1x8x64_S_d0_1_2_3 h_S_) main_v5 main_c
  let main_v7 : FVec F S128x16x8x64 .f32 := Host.absf main_arg1
  let main_cst_0 : FVec F S_ .f32 := constant S_ .f32 0x7F800000#32
  let main_v8 : FVec F S128x16x8x64 .f32 := broadcastInDim S128x16x8x64 ![] bcast_S_S128x16x8x64 main_cst_0
  let main_v9 : IVec S128x16x8x64 1 := cmpf .olt main_v7 main_v8
  let main_c_1 : IVec S_ 1 := constantI S_ 1 1#1
  let main_v10 : IVec S_ 1 := (fun x v => Host.reduce IntOp.andi x v reducesTo_S128x16x8x64_S_d0_1_2_3 h_S_) main_v9 main_c_1
  let main_v11 : IVec S_ 1 := andi main_v6 main_v10
  let main_c_2 : IVec S_ 32 := constantI S_ 32 1#32
  let main_v12 : IVec S8x1 32 := broadcastInDim S8x1 ![] bcast_S_S8x1 main_c_2
  let main_v13 : IVec S8x1 1 := cmpi .sge main_arg4 main_v12
  let main_c_3 : IVec S_ 1 := constantI S_ 1 1#1
  let main_v14 : IVec S_ 1 := (fun x v => Host.reduce IntOp.andi x v reducesTo_S8x1_S_d0_1 h_S_) main_v13 main_c_3
  let main_v15 : IVec S_ 1 := andi main_v11 main_v14
  let main_c_4 : IVec S_ 32 := constantI S_ 32 0#32
  let main_v16 : IVec S8x64 32 := broadcastInDim S8x64 ![] bcast_S_S8x64 main_c_4
  fn_part1 (F := F) main_arg3 main_v2 main_v15 main_v16
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8x1 : Shape := ⟨2, ![8, 1]⟩
abbrev S8x8x64 : Shape := ⟨3, ![8, 8, 64]⟩
abbrev S2x8x8 : Shape := ⟨3, ![2, 8, 8]⟩
abbrev S2 : Shape := ⟨1, ![2]⟩
abbrev S_ : Shape := ⟨0, ![]⟩
abbrev S8x64x64 : Shape := ⟨3, ![8, 64, 64]⟩
abbrev S8x64x1 : Shape := ⟨3, ![8, 64, 1]⟩
abbrev S8x64x128 : Shape := ⟨3, ![8, 64, 128]⟩
abbrev S8x8192 : Shape := ⟨2, ![8, 8192]⟩
abbrev S64x64 : Shape := ⟨2, ![64, 64]⟩
abbrev S8192x64 : Shape := ⟨2, ![8192, 64]⟩
abbrev S64x8192 : Shape := ⟨2, ![64, 8192]⟩
abbrev S8x8x8192 : Shape := ⟨3, ![8, 8, 8192]⟩
abbrev S8x8 : Shape := ⟨2, ![8, 8]⟩
abbrev S8x1x8192 : Shape := ⟨3, ![8, 1, 8192]⟩
abbrev S1x8x8192 : Shape := ⟨3, ![1, 8, 8192]⟩
abbrev S8x8x1 : Shape := ⟨3, ![8, 8, 1]⟩
abbrev S1x8x8 : Shape := ⟨3, ![1, 8, 8]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S8x1x8x64, .f32⟩
  | .hbm, ⟨1, _⟩ => ⟨S64x16x8x64, .f32⟩
  | .hbm, ⟨2, _⟩ => ⟨S64x16x8x64, .f32⟩
  | .hbm, ⟨3, _⟩ => ⟨S8x64, .i32⟩
  | .hbm, ⟨4, _⟩ => ⟨S8x1, .i32⟩
  | .hbm, ⟨5, _⟩ => ⟨S8x1x8x64, .f32⟩
  | .local _ .vmem, ⟨0, _⟩ => ⟨S8x1x8x64, .f32⟩
  | .local _ .vmem, ⟨1, _⟩ => ⟨S64x16x8x64, .f32⟩
  | .local _ .vmem, ⟨2, _⟩ => ⟨S64x16x8x64, .f32⟩
  | .local _ .vmem, ⟨3, _⟩ => ⟨S8x64, .i32⟩
  | .local _ .vmem, ⟨4, _⟩ => ⟨S8x1, .i32⟩
  | .local _ .vmem, ⟨5, _⟩ => ⟨S8x1x8x64, .f32⟩
  | .local _ .vmem, ⟨6, _⟩ => ⟨S8x8x64, .f32⟩
  | .local _ .vmem, ⟨7, _⟩ => ⟨S8x8x64, .f32⟩
  | .local _ .vmem, ⟨8, _⟩ => ⟨S2x8x8, .f32⟩
  | .local _ .vmem, ⟨9, _⟩ => ⟨S2x8x8, .f32⟩
  | _, _ => ⟨S8x1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_43 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_42 : BitVec 32 := 2#32
  let v96 : BitVec 32 := Scalar.muli v6 c2_i32_42
  let v97 : BitVec 32 := Scalar.addi c0_i32_43 v96
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v98 : BitVec 32 := Scalar.muli v5 c1_i32_44
  let v99 : BitVec 32 := Scalar.addi v97 v98
  v99.toNat
def k0_dev3 (d0 : Dev nD) : Nat :=
  let c0_i32_48 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_47 : BitVec 32 := 2#32
  let v104 : BitVec 32 := Scalar.muli v6 c2_i32_47
  let v105 : BitVec 32 := Scalar.addi c0_i32_48 v104
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v106 : BitVec 32 := Scalar.muli v5 c1_i32_49
  let v107 : BitVec 32 := Scalar.addi v105 v106
  v107.toNat
abbrev stage0_0 : Fin 1 → Memref sig .tc .vmem S8x1x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x16x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x1x8x64 : Shape := ⟨4, ![8, 1, 8, 64]⟩
abbrev S128x16x8x64 : Shape := ⟨4, ![128, 16, 8, 64]⟩
abbrev S8x64 : Shape := ⟨2, ![8, 64]⟩
abbrev S8x1 : Shape := ⟨2, ![8, 1]⟩
abbrev S8x64x1 : Shape := ⟨3, ![8, 64, 1]⟩
abbrev S8x64x16x8x64 : Shape := ⟨5, ![8, 64, 16, 8, 64]⟩
abbrev S8x1024x8x64 : Shape := ⟨4, ![8, 1024, 8, 64]⟩
abbrev S8x8x1x1024 : Shape := ⟨4, ![8, 8, 1, 1024]⟩
abbrev S_ : Shape := ⟨0, ![]⟩
abbrev S8x64x16 : Shape := ⟨3, ![8, 64, 16]⟩
abbrev S8x1024 : Shape := ⟨2, ![8, 1024]⟩
abbrev S8x1x1x1024 : Shape := ⟨4, ![8, 1, 1, 1024]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 40
  | .vmem => 0
  | .smem => 0
  | _ => 0

abbrev bufTy : (tb : Table) → Fin (tcTables nBuf tb) → BufTy
  | .hbm, ⟨0, _⟩ => ⟨S8x1x8x64, .f32⟩
  | .hbm, ⟨1, _⟩ => ⟨S128x16x8x64, .f32⟩
  | .hbm, ⟨2, _⟩ => ⟨S128x16x8x64, .f32⟩
  | .hbm, ⟨3, _⟩ => ⟨S8x64, .i32⟩
  | .hbm, ⟨4, _⟩ => ⟨S8x1, .i32⟩
  | .hbm, ⟨5, _⟩ => ⟨S8x64x1, .i32⟩
  | .hbm, ⟨6, _⟩ => ⟨S8x64x16x8x64, .f32⟩
  | .hbm, ⟨7, _⟩ => ⟨S8x1024x8x64, .f32⟩
  | .hbm, ⟨8, _⟩ => ⟨S8x64x1, .i32⟩
  | .hbm, ⟨9, _⟩ => ⟨S8x64x16x8x64, .f32⟩
  | .hbm, ⟨10, _⟩ => ⟨S8x1024x8x64, .f32⟩
  | .hbm, ⟨11, _⟩ => ⟨S8x8x1x1024, .f32⟩
  | .hbm, ⟨12, _⟩ => ⟨S_, .f32⟩
  | .hbm, ⟨13, _⟩ => ⟨S8x8x1x1024, .f32⟩
  | .hbm, ⟨14, _⟩ => ⟨S8x8x1x1024, .f32⟩
  | .hbm, ⟨15, _⟩ => ⟨S8x64, .i32⟩
  | .hbm, ⟨16, _⟩ => ⟨S8x64, .i32⟩
  | .hbm, ⟨17, _⟩ => ⟨S8x64, .i1⟩
  | .hbm, ⟨18, _⟩ => ⟨S8x64x1, .i1⟩
  | .hbm, ⟨19, _⟩ => ⟨S8x64x16, .i1⟩
  | .hbm, ⟨20, _⟩ => ⟨S8x1024, .i1⟩
  | .hbm, ⟨21, _⟩ => ⟨S8x1x1x1024, .i1⟩
  | .hbm, ⟨22, _⟩ => ⟨S_, .f32⟩
  | .hbm, ⟨23, _⟩ => ⟨S_, .f32⟩
  | .hbm, ⟨24, _⟩ => ⟨S8x8x1x1024, .i1⟩
  | .hbm, ⟨25, _⟩ => ⟨S8x8x1x1024, .f32⟩
  | .hbm, ⟨26, _⟩ => ⟨S8x8x1x1024, .f32⟩
  | .hbm, ⟨27, _⟩ => ⟨S_, .f32⟩
  | .hbm, ⟨28, _⟩ => ⟨S8x8x1, .f32⟩
  | .hbm, ⟨29, _⟩ => ⟨S8x8x1x1, .f32⟩
  | .hbm, ⟨30, _⟩ => ⟨S8x8x1x1024, .f32⟩
  | .hbm, ⟨31, _⟩ => ⟨S8x8x1x1024, .f32⟩
  | .hbm, ⟨32, _⟩ => ⟨S8x8x1x1024, .f32⟩
  | .hbm, ⟨33, _⟩ => ⟨S_, .f32⟩
  | .hbm, ⟨34, _⟩ => ⟨S8x8x1, .f32⟩
  | .hbm, ⟨35, _⟩ => ⟨S8x8x1x1, .f32⟩
  | .hbm, ⟨36, _⟩ => ⟨S8x8x1x1024, .f32⟩
  | .hbm, ⟨37, _⟩ => ⟨S8x8x1x1024, .f32⟩
  | .hbm, ⟨38, _⟩ => ⟨S8x8x64x1, .f32⟩
  | .hbm, ⟨39, _⟩ => ⟨S8x1x8x64, .f32⟩
  | _, _ => ⟨S8x1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Exchange.lean ====
/-
# The exchange of the partial softmax states between the two halves of the page pool

The four devices form a 2×2 mesh; the page pool is cut along its first axis, so device `c` holds one half and the device
in the other row of its column, `peer c`, the other half. Each device computes a partial softmax state over its half
(an unnormalised output, a row maximum and a row sum), tells its peer that its landing buffers are ready, waits for the
peer's word, copies its state to the peer, and merges the peer's state into its own.

Every device has five semaphore cells, each of which is paid exactly once and waited on exactly once:

* the barrier cell, paid by the peer with the peer's two landing buffers;
* the two send cells, paid by the device's own copies with the buffers they read;
* the two receive cells, paid by the peer's copies with the landing buffers holding the peer's state.

This module states the protocol for any float values and any launch memory, and runs the kernel's body through it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ViewIndex
public import Idealize.ShloMosaic.Lib.ReshapeSlab
public import Idealize.ShloMosaic.Lib.Tactic

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's own ghost state: rounds over the semaphore cells, one duty a round. -/
abbrev UX : Type := URounds (GSem nD τ sig) Unit
/-- The ghost state of the whole launch: the staging pipeline's beside the exchange's. -/
abbrev UU : Type := UR sig nD τ × UX

local notation "𝕄" => MT nD τ sig Unit (Elt F) ℕ UU ℕ

/-- The staging pipeline's part of the ghost state. -/
abbrev EP : Emb (UR sig nD τ) (MT nD τ sig Unit (Elt F) ℕ UU ℕ) := embL
/-- The exchange's part of the ghost state. -/
abbrev EX : Emb UX (MT nD τ sig Unit (Elt F) ℕ UU ℕ) := embR

variable (m : (ℓ : Loc nD τ sig) → Buf (Elt F) ℓ)

/-! ## The mesh -/

set_option backward.proofsInPublic true in
/-- The device holding the other half of the page pool in the same column: two places on, around the four. -/
def peer (c : Dev nD) : Dev nD := ⟨(c.val + 2) % 4, Nat.mod_lt _ (by decide)⟩

/-- Being each other's peer is symmetric. -/
theorem peer_peer (c : Dev nD) : peer (peer c) = c := by revert c; decide

/-- The pairing as a permutation of the devices. -/
def pairing : Dev nD ≃ Dev nD := ⟨peer, peer, peer_peer, peer_peer⟩

/-- The device the kernel signals, computed from its own number, is its peer. -/
theorem signal_dest (c : Dev nD) : (⟨k0_dev1 c, k0_dev1_lt c⟩ : Dev nD) = peer c :=
  Fin.ext ((k0_dev1_eq c).trans (by revert c; decide))
/-- So is the device its first copy goes to, -/
theorem copy_dest (c : Dev nD) : (⟨k0_dev2 c, k0_dev2_lt c⟩ : Dev nD) = peer c :=
  Fin.ext ((k0_dev2_eq c).trans (by revert c; decide))
/-- and the device its second copy goes to. -/
theorem copy_dest' (c : Dev nD) : (⟨k0_dev3 c, k0_dev3_lt c⟩ : Dev nD) = peer c :=
  Fin.ext ((k0_dev3_eq c).trans (by revert c; decide))

/-! ## Buffers and cells -/

/-- The buffer the unnormalised output is sent from, -/
abbrev oSnd : Memref sig .tc .vmem S8x8x64 .f32 := Memref.whole cc0_scratch0
/-- the buffer the peer's lands in, -/
abbrev oRcv : Memref sig .tc .vmem S8x8x64 .f32 := Memref.whole cc0_scratch1
/-- the buffer the row maximum and the row sum are sent from, -/
abbrev sSnd : Memref sig .tc .vmem S2x8x8 .f32 := Memref.whole cc0_scratch2
/-- and the buffer the peer's land in. -/
abbrev sRcv : Memref sig .tc .vmem S2x8x8 .f32 := Memref.whole cc0_scratch3

/-- The barrier semaphore the two devices of a pair meet at. -/
abbrev barS : Sem sig := (SemArray.scalar (sig.barrier 0 rfl) : Sems sig S_).sem
/-- The two send semaphores, -/
abbrev sndS0 : DmaSem sig := ((cc0_scratch4.slice (Rect.unit (s := S2) ![0] S1.size inb_S2_S1_0)).squeeze S_ squeezes_S1_S_ : DmaSems sig S_).sem
abbrev sndS1 : DmaSem sig := ((cc0_scratch4.slice (Rect.unit (s := S2) ![1] S1.size inb_S2_S1_1)).squeeze S_ squeezes_S1_S_ : DmaSems sig S_).sem
/-- and the two receive semaphores. -/
abbrev rcvS0 : DmaSem sig := ((cc0_scratch5.slice (Rect.unit (s := S2) ![0] S1.size inb_S2_S1_0)).squeeze S_ squeezes_S1_S_ : DmaSems sig S_).sem
abbrev rcvS1 : DmaSem sig := ((cc0_scratch5.slice (Rect.unit (s := S2) ![1] S1.size inb_S2_S1_1)).squeeze S_ squeezes_S1_S_ : DmaSems sig S_).sem

/-- A device's five semaphores: barrier, send and receive of the output, send and receive of the row statistics. -/
abbrev role : Fin 5 → SemLoc sig
  | 0 => .reg barS | 1 => .dma sndS0 | 2 => .dma rcvS0 | 3 => .dma sndS1 | 4 => .dma rcvS1

/-- The five are different semaphores. -/
theorem role_injective : Function.Injective role := by decide

/-- Which of the five a semaphore is, if any. -/
def roleOf (s : SemLoc sig) : Option (Fin 5) :=
  if s = role 0 then some 0 else if s = role 1 then some 1 else if s = role 2 then some 2
  else if s = role 3 then some 3 else if s = role 4 then some 4 else none

theorem roleOf_role (k : Fin 5) : roleOf (role k) = some k := by revert k; decide

/-- Device `c`'s cell in role `k`. -/
abbrev cell (c : Dev nD) (k : Fin 5) : GSem nD τ sig := ((c : Thread nD τ), role k)

/-- The credit a copy of the output earns, and that of a copy of the row statistics. -/
abbrev N0 : ℕ := (oRcv : Memref sig .tc .vmem S8x8x64 .f32).view.dmaCredit
abbrev N1 : ℕ := (sRcv : Memref sig .tc .vmem S2x8x8 .f32).view.dmaCredit

theorem N0_pos : 0 < N0 := View.dmaCredit_pos _ (by decide)
theorem N1_pos : 0 < N1 := View.dmaCredit_pos _ (by decide)

/-- What each role's cell is paid, in all. -/
def amt : Fin 5 → ℕ
  | 0 => 1 | 1 => N0 | 2 => N0 | 3 => N1 | 4 => N1

theorem amt_pos (k : Fin 5) : 0 < amt k := by
  fin_cases k
  · exact Nat.one_pos
  · exact N0_pos
  · exact N0_pos
  · exact N1_pos
  · exact N1_pos

/-! ## Contents -/

/-- Device `c`'s staged operands: the queries, -/
def inQ (c : Dev nD) : (cc0_stg0_0 : Ref sig .tc).ty.Contents (Elt F) :=
  (win0_0.blk (0 : Fin 1)).view.read (Elt F) (m ((c : Thread nD τ).loc main_arg0))
/-- its half of the keys, -/
def inK (c : Dev nD) : (cc0_stg1_0 : Ref sig .tc).ty.Contents (Elt F) :=
  (win0_1.blk (0 : Fin 1)).view.read (Elt F) (m ((c : Thread nD τ).loc main_arg1))
/-- its half of the values, -/
def inV (c : Dev nD) : (cc0_stg2_0 : Ref sig .tc).ty.Contents (Elt F) :=
  (win0_2.blk (0 : Fin 1)).view.read (Elt F) (m ((c : Thread nD τ).loc main_arg2))
/-- the block table, -/
def inB (c : Dev nD) : (cc0_stg3_0 : Ref sig .tc).ty.Contents (Elt F) :=
  (win0_3.blk (0 : Fin 1)).view.read (Elt F) (m ((c : Thread nD τ).loc main_arg3))
/-- and the number of live pages of each row. -/
def inN (c : Dev nD) : (cc0_stg4_0 : Ref sig .tc).ty.Contents (Elt F) :=
  (win0_4.blk (0 : Fin 1)).view.read (Elt F) (m ((c : Thread nD τ).loc main_arg4))

/-- The scores of device `c`'s queries against every key row of its half, -/
def score (c : Dev nD) : FVec F S8x8x8192 .f32 := k0_pay4 (inQ m c) (inK m c)
/-- their row maximum, -/
def rowMax (c : Dev nD) : FVec F S8x8 .f32 := k0_pay5 (inQ m c) (inK m c)
/-- and the weight of each key row: how often the live table entries name its page, where its head is the query's. -/
def weight (c : Dev nD) : FVec F S8x8x8192 .f32 :=
  k0_pay6 (k0_pay2 c (inB m c) (inN m c)) (iota .tc S8x8192 32 [0] iota_S8x8192_d0_w32) (iota .tc S8x8192 32 [1] iota_S8x8192_d1_w32)
/-- The row sum of the weighted exponentials, -/
def rowSum (c : Dev nD) : FVec F S8x8 .f32 := k0_pay9 (score m c) (weight m c) (k0_pay7 (inQ m c) (inK m c))
/-- the unnormalised output, -/
def outPart (c : Dev nD) : FVec F S8x8x64 .f32 :=
  k0_pay10 (k0_pay3 (inV m c)) (score m c) (weight m c) (k0_pay7 (inQ m c) (inK m c))
/-- and the three as they are laid into the buffers they are sent from. -/
def outSent (c : Dev nD) : FVec F S8x8x64 .f32 :=
  k0_pay11 (k0_pay3 (inV m c)) (score m c) (weight m c) (k0_pay7 (inQ m c) (inK m c))
def maxSent (c : Dev nD) : FVec F S1x8x8 .f32 := k0_pay12 (rowMax m c)
def sumSent (c : Dev nD) : FVec F S1x8x8 .f32 := k0_pay13 (score m c) (weight m c) (k0_pay7 (inQ m c) (inK m c))

/-- The kernel's result on device `c`: its own partial state merged with its peer's. -/
def result (c : Dev nD) : FVec F S8x1x8x64 .f32 :=
  k0_pay1 (outSent m (peer c)) (k0_pay17 (rowMax m c) (maxSent m (peer c)))
    (k0_pay18 (rowMax m c) (rowSum m c) (maxSent m (peer c)) (sumSent m (peer c)))
    (k0_pay19 (rowMax m c) (outPart m c) (maxSent m (peer c)))

/-- The rectangle of the row maxima in a statistics buffer, and that of the row sums. -/
abbrev top : Rect S2x8x8 := Rect.unit (s := S2x8x8) ![0, 0, 0] S1x8x8.size inb_S2x8x8_S1x8x8_0_0_0
abbrev bot : Rect S2x8x8 := Rect.unit (s := S2x8x8) ![1, 0, 0] S1x8x8.size inb_S2x8x8_S1x8x8_1_0_0

/-- A statistics buffer holding device `c`'s row maxima and row sums. -/
def Stats (c : Dev nD) (f : (cc0_scratch3 : Ref sig .tc).ty.Contents (Elt F)) : Prop :=
  (sRcv : Memref sig .tc .vmem S2x8x8 .f32).view.readAt (Elt F) top.toLoadRect f = maxSent m c
    ∧ (sRcv : Memref sig .tc .vmem S2x8x8 .f32).view.readAt (Elt F) bot.toLoadRect f = sumSent m c

/-- Device `c` holds the whole of a memref, at contents `f`. -/
def held (c : Dev nD) {s : Shape} {e : EltTy} (M : Memref sig .tc .vmem s e) (f : Buf (Elt F) (M.view.loc (c : Thread nD τ))) : sProp 𝕄 :=
  M.view.loc (c : Thread nD τ) ↦[M.view.set]{fullShare} f

omit [FloatOps F] in
instance held_storable (c : Dev nD) {s : Shape} {e : EltTy} (M : Memref sig .tc .vmem s e) (f : Buf (Elt F) (M.view.loc (c : Thread nD τ))) :
    BI.Storable (upEmb : UEmb _ 𝕄) (held c M f) := by unfold held; infer_instance

omit [FloatOps F] in
/-- Holding each of the four exchange buffers is holding the whole buffer. -/
theorem held_oSnd (c : Dev nD) (f : Buf (Elt F) ((c : Thread nD τ).loc cc0_scratch0)) :
    held c oSnd f = (((c : Thread nD τ).loc cc0_scratch0) ↦{fullShare} f : sProp 𝕄) := by unfold held; rw [View.set_whole]
omit [FloatOps F] in
theorem held_oRcv (c : Dev nD) (f : Buf (Elt F) ((c : Thread nD τ).loc cc0_scratch1)) :
    held c oRcv f = (((c : Thread nD τ).loc cc0_scratch1) ↦{fullShare} f : sProp 𝕄) := by unfold held; rw [View.set_whole]
omit [FloatOps F] in
theorem held_sSnd (c : Dev nD) (f : Buf (Elt F) ((c : Thread nD τ).loc cc0_scratch2)) :
    held c sSnd f = (((c : Thread nD τ).loc cc0_scratch2) ↦{fullShare} f : sProp 𝕄) := by unfold held; rw [View.set_whole]
omit [FloatOps F] in
theorem held_sRcv (c : Dev nD) (f : Buf (Elt F) ((c : Thread nD τ).loc cc0_scratch3)) :
    held c sRcv f = (((c : Thread nD τ).loc cc0_scratch3) ↦{fullShare} f : sProp 𝕄) := by unfold held; rw [View.set_whole]

/-! ## The schedule -/

/-- What a cell's one payment hands its owner, by role: the peer's landing buffers, ready to be written; the output's
    send buffer back; the output's landing buffer holding the peer's; the statistics' send buffer back; the statistics'
    landing buffer holding the peer's. -/
def pay (k : Fin 5) (c : Dev nD) : sProp 𝕄 := match k with
  | 0 => iprop((∃ f, held (peer c) oRcv f) ∗ (∃ f, held (peer c) sRcv f)
      ∗ reached EX (cell (peer c) 2) 0 ∗ reached EX (cell (peer c) 4) 0)
  | 1 => iprop(∃ f, held c oSnd f)
  | 2 => held c oRcv (outSent m (peer c))
  | 3 => iprop(∃ f, held c sSnd f)
  | 4 => iprop(∃ f, ⌜Stats m (peer c) f⌝ ∗ held c sRcv f)

instance pay_storable (k : Fin 5) (c : Dev nD) : BI.Storable (upEmb : UEmb _ 𝕄) (pay m k c) := by
  fin_cases k <;> (unfold pay; dsimp only; infer_instance)

/-- One round, with one duty, at each of the five cells of every device. -/
def plan : Rounds.Schedule (GSem nD τ sig) Unit 𝕄 where
  duties g r := if r = 0 ∧ g.1.2 = .tc ∧ (roleOf g.2).isSome then {()} else ∅
  unitless _ := False
  amount g _ _ := match roleOf g.2 with | some k => amt k | none => 1
  payload g _ _ := match roleOf g.2 with | some k => pay m k g.1.1 | none => iprop(emp)
  amount_pos g _ _ _ := by
    cases roleOf g.2 with
    | none => exact Nat.one_pos
    | some k => exact amt_pos k

instance plan_storable (g : GSem nD τ sig) (r : ℕ) (d : Unit) : BI.Storable (upEmb : UEmb _ 𝕄) ((plan (F := F) m).payload g r d) := by
  dsimp only [plan]
  cases roleOf g.2 <;> (dsimp only; infer_instance)

section Plan
variable (c : Dev nD) (k : Fin 5)

/-- The schedule at a cell: its duty, -/
theorem plan_duties : (plan (F := F) m).duties (cell c k) 0 = {()} := by
  dsimp only [plan]; exact if_pos ⟨rfl, rfl, by rw [roleOf_role]; rfl⟩
/-- no later one, -/
theorem plan_over (g : GSem nD τ sig) : ∀ r, 1 ≤ r → (plan (F := F) m).duties g r = ∅ :=
  fun r hr => by dsimp only [plan]; exact if_neg fun h => by omega
/-- what it pays, -/
theorem plan_amount : (plan (F := F) m).amount (cell c k) 0 () = amt k := by dsimp only [plan]; rw [roleOf_role]
theorem plan_expect : (plan (F := F) m).expect (cell c k) 0 = amt k := by
  unfold Schedule.expect Schedule.amountOf; rw [plan_duties, Finset.sum_singleton, plan_amount]
/-- and what it hands over. -/
theorem plan_payload : (plan (F := F) m).payload (cell c k) 0 () = pay m k c := by dsimp only [plan]; rw [roleOf_role]
theorem plan_rest : bigSep ((plan (F := F) m).duties (cell c k) 0 \ ∅) (fun d => (plan (F := F) m).payload (cell c k) 0 d) = pay m k c := by
  rw [Finset.sdiff_empty, plan_duties, bigSep_singleton, plan_payload]

end Plan

/-! ## Debts and levels -/

/-- After its signal a device still owes its peer's two receive cells, -/
def owedCopies (c : Dev nD) : CellTallies nD τ sig Unit := tallyAt (cell (peer c) 4) () N1 + tallyAt (cell (peer c) 2) () N0
/-- and at launch its peer's barrier cell as well. -/
def owedAll (c : Dev nD) : CellTallies nD τ sig Unit := owedCopies c + tallyAt (cell (peer c) 0) () 1

/-- The one index a core's cells are waited on by. -/
def waitIx (g : GSem nD τ sig) : Finset Unit := if g.1.2 = .tc then {()} else ∅
/-- Receive cells above barrier cells above everything else. -/
def level (g : GSem nD τ sig) (_ : Unit) : ℕ := match roleOf g.2 with | some 0 => 1 | some 2 => 2 | some 4 => 2 | _ => 0

theorem waitIx_off (g : GSem nD τ sig) (h : g.1.2 ≠ .tc) : waitIx g = ∅ := if_neg h
theorem waitIx_core (c : Dev nD) (s : SemLoc sig) : waitIx ((c : Thread nD τ), s) = {()} := if_pos rfl

/-- What is owed after the signal is owed to receive cells; -/
theorem owedCopies_pos {c : Dev nD} {g : GSem nD τ sig} {u : Unit} (h : 0 < owedCopies c g u) :
    g = cell (peer c) 4 ∨ g = cell (peer c) 2 := by
  unfold owedCopies at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- what is owed at launch, to them or to a barrier cell. -/
theorem owedAll_pos {c : Dev nD} {g : GSem nD τ sig} {u : Unit} (h : 0 < owedAll c g u) :
    g = cell (peer c) 4 ∨ g = cell (peer c) 2 ∨ g = cell (peer c) 0 := by
  by_cases h0 : g = cell (peer c) 0
  · exact .inr (.inr h0)
  · have h' : 0 < owedCopies c g u := by
      unfold owedAll at h
      rwa [Pi.add_apply, Finsupp.add_apply, tallyAt_apply (cell (peer c) 0), if_neg (fun h' => h0 h'.1), Nat.add_zero] at h
    rcases owedCopies_pos h' with h | h
    · exact .inl h
    · exact .inr (.inl h)

/-- A staging semaphore may be waited on while the launch's debts stand, and while nothing is owed. -/
theorem mayWait_staging (c : Dev nD) (q : DmaSem sig) (hq : roleOf (.dma q) = none) (O : CellTallies nD τ sig Unit) (hO : O = owedAll c ∨ O = 0) :
    (levAts waitIx level : sProp 𝕄) ⊢ MayWait (c : Thread nD τ) (.dma q) () O := by
  rcases hO with rfl | rfl
  · refine MayOwe.of_cut (L := waitIx) (lev := level) 0 (fun p hp => by rw [Finset.mem_singleton.mp hp, waitIx_core]; exact Finset.mem_singleton_self _)
      (fun g u hg => by rcases owedAll_pos hg with rfl | rfl | rfl <;> exact Finset.mem_singleton_self _)
      (fun p hp => by rw [Finset.mem_singleton.mp hp]; dsimp only [level]; rw [hq])
      (fun g u hg => by
        rcases owedAll_pos hg with rfl | rfl | rfl <;> (dsimp only [level]; rw [roleOf_role]; decide))
  · rw [MayWait_zero]; iintro -; iempintro

/-- At its barrier wait a device owes receive cells only, which are above. -/
theorem mayWait_barrier (c : Dev nD) : (levAts waitIx level : sProp 𝕄) ⊢ MayWait (c : Thread nD τ) (role 0) () (owedCopies c) :=
  MayOwe.of_cut (L := waitIx) (lev := level) 1 (fun p hp => by rw [Finset.mem_singleton.mp hp, waitIx_core]; exact Finset.mem_singleton_self _)
    (fun g u hg => by rcases owedCopies_pos hg with rfl | rfl <;> exact Finset.mem_singleton_self _)
    (fun p hp => by rw [Finset.mem_singleton.mp hp]; dsimp only [level]; rw [roleOf_role]; decide)
    (fun g u hg => by rcases owedCopies_pos hg with rfl | rfl <;> (dsimp only [level]; rw [roleOf_role]; decide))

/-! ## What the body starts from and leaves -/

/-- The invariants device `c` opens: those of its five cells and of the three of its peer's it pays. -/
def known (K : Dev nD × Fin 5 → ℕ) (c : Dev nD) : sProp 𝕄 :=
  iprop((cellInv EX (plan m) (K (c, 0)) (cell c 0) ∗ cellInv EX (plan m) (K (c, 1)) (cell c 1) ∗ cellInv EX (plan m) (K (c, 2)) (cell c 2)
      ∗ cellInv EX (plan m) (K (c, 3)) (cell c 3) ∗ cellInv EX (plan m) (K (c, 4)) (cell c 4))
    ∗ cellInv EX (plan m) (K (peer c, 0)) (cell (peer c) 0) ∗ cellInv EX (plan m) (K (peer c, 2)) (cell (peer c) 2)
    ∗ cellInv EX (plan m) (K (peer c, 4)) (cell (peer c) 4))

instance known_persistent (K : Dev nD × Fin 5 → ℕ) (c : Dev nD) : BI.Persistent (known m K c) := by unfold known; infer_instance

/-- The marks that the rounds device `c` pays in are open, and those of its own receive cells that it passes on. -/
def opened (c : Dev nD) : sProp 𝕄 :=
  iprop(reached EX (cell c 1) 0 ∗ reached EX (cell c 2) 0 ∗ reached EX (cell c 3) 0 ∗ reached EX (cell c 4) 0 ∗ reached EX (cell (peer c) 0) 0)

instance opened_persistent (c : Dev nD) : BI.Persistent (opened (F := F) c) := by unfold opened; infer_instance

/-- Where device `c` stands at its five cells. -/
def places (c : Dev nD) : sProp 𝕄 :=
  iprop(atPos EX (cell c 0) 0 ∅ 0 ∗ atPos EX (cell c 1) 0 ∅ 0 ∗ atPos EX (cell c 2) 0 ∅ 0 ∗ atPos EX (cell c 3) 0 ∅ 0 ∗ atPos EX (cell c 4) 0 ∅ 0)

/-- The right to make the five payments device `c` makes. -/
def rights (c : Dev nD) : sProp 𝕄 :=
  iprop(dutyTok EX (cell (peer c) 0) 0 () ∗ dutyTok EX (cell c 1) 0 () ∗ dutyTok EX (cell (peer c) 2) 0 () ∗ dutyTok EX (cell c 3) 0 ()
    ∗ dutyTok EX (cell (peer c) 4) 0 ())

/-- The exchange's ghost state device `c` starts from. -/
def ghost (K : Dev nD × Fin 5 → ℕ) (c : Dev nD) : sProp 𝕄 := iprop(known m K c ∗ opened c ∗ places c ∗ rights c)

/-- With it, the credit it will be paid at its barrier and receive cells, and the levels. -/
def start (c : Dev nD) : sProp 𝕄 :=
  iprop((∃ K, ghost m K c) ∗ (cred (tallyAt (cell c 0) () 1) ∗ cred (tallyAt (cell c 2) () N0) ∗ cred (tallyAt (cell c 4) () N1)) ∗ levAts waitIx level)

/-- The four exchange buffers, at whatever they hold. -/
def buffers (c : Dev nD) : sProp 𝕄 :=
  iprop((∃ f, held c oSnd f) ∗ (∃ f, held c oRcv f) ∗ (∃ f, held c sSnd f) ∗ (∃ f, held c sRcv f))

/-- The five cells' counters at zero. -/
def quiet (c : Dev nD) : sProp 𝕄 :=
  iprop(semVal (cell c 0) 0 ∗ semVal (cell c 1) 0 ∗ semVal (cell c 2) 0 ∗ semVal (cell c 3) 0 ∗ semVal (cell c 4) 0)

/-- The pipeline's proof data: the operands stay, the result is the merged state, and the debts are gone after the one point. -/
def dats (_ : Fin 1) (c : Dev nD) : Dat τ (Elt F) Unit ℕ UU ℕ cfg0 c where
  A w := m ((cfg0.win w).arr.view.loc (c : Thread nD τ))
  after w _ := match w with
    | ⟨0, _⟩ => inQ m c
    | ⟨1, _⟩ => inK m c
    | ⟨2, _⟩ => inV m c
    | ⟨3, _⟩ => inB m c
    | ⟨4, _⟩ => inN m c
    | ⟨5, _⟩ => result m c
  Φ t := match t with
    | ⟨0, _⟩ => iprop(start m c ∗ buffers c)
    | ⟨_ + 1, _⟩ => iprop(buffers c ∗ quiet c)
  q _ := fullShare
  owed t := match t with
    | ⟨0, _⟩ => owedAll c
    | ⟨_ + 1, _⟩ => 0

end Cert.Swap

end
-- ==== Proof.Body.lean ====
/-
# The kernel's body

One device's body, run from its share of the exchange's ghost state and its staged operands to its merged result: the
signal hands its landing buffers to the peer, the wait brings the peer's, the two copies carry its partial state over,
the four waits bring its send buffers and the peer's state back, and the cells close at zero.
-/
module

public import proofs.«01_k».proof.Proof.Exchange

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kernel declares no variants. -/
abbrev noVar : Variants := Variants.none

/-! ## The statistics buffer's two halves -/

/-- The row maxima and the row sums occupy disjoint parts of the buffer. -/
theorem halves_disjoint {v : View sig .tc .vmem S2x8x8 .f32} : Disjoint (v.slice top).set (v.slice bot).set :=
  View.disjoint_slice_of_sep v top bot (0 : Fin 3) rfl rfl (.inl (by decide))

/-- A statistics buffer written in its two halves, whatever it held, and copied whole to the other device's: the copy
    holds the two. -/
theorem stats_copied (c : Dev nD) (f : (cc0_scratch2 : Ref sig .tc).ty.Contents (Elt F)) (fd : (cc0_scratch3 : Ref sig .tc).ty.Contents (Elt F)) :
    Stats m c ((sRcv : Memref sig .tc .vmem S2x8x8 .f32).view.write (Elt F) fd
      ((sSnd : Memref sig .tc .vmem S2x8x8 .f32).view.read (Elt F)
        ((sSnd.access bot : View sig .tc _ _ _).write (Elt F) ((sSnd.access top : View sig .tc _ _ _).write (Elt F) f (maxSent m c) Finset.univ)
          (sumSent m c) Finset.univ)) Finset.univ) := by
  have hw : ∀ g : (cc0_scratch2 : Ref sig .tc).ty.Contents (Elt F),
      (sRcv : Memref sig .tc .vmem S2x8x8 .f32).view.write (Elt F) fd ((sSnd : Memref sig .tc .vmem S2x8x8 .f32).view.read (Elt F) g) Finset.univ
        = g := fun g => View.write_whole_univ _ _ _
  rw [hw]
  constructor
  · show ((View.whole cc0_scratch2).slice top).read (Elt F) (((View.whole cc0_scratch2).slice bot).write (Elt F) _ _ Finset.univ) = _
    rw [View.read_slice_write_slice_of_disjoint _ _ _ _ _ (by rw [View.setOn_univ]; exact halves_disjoint)]
    exact View.read_write_univ _ _
  · exact View.read_write_univ _ _

/-! ## The two copies -/

section Copies

variable (K : Dev nD × Fin 5 → ℕ)

/-- The copy of the output to the peer `n`: it pays the send cell with the buffer read and the peer's receive cell with the
    peer's landing buffer, now holding the output. -/
theorem copy_out (c n : Dev nD) (hn : n = peer c) {hsc : (oRcv : Memref sig (Dev.tc n : Thread nD τ).2.kind .vmem S8x8x64 .f32).view.ref.isScScratch = false}
    {hsrc : (oSnd : Memref sig .tc .vmem S8x8x64 .f32).view.WordExact} {hdst : (oRcv : Memref sig .tc .vmem S8x8x64 .f32).view.WordExact}
    {hsem : DmaTarget.Typed .vmem (role 2) (.remote (Dev.tc n : Thread nD τ) (oRcv : Memref sig .tc .vmem S8x8x64 .f32) (role 1) hsc)}
    {α : Type} {Q : α → sProp 𝕄} {k : PUnit → Prog (TpuEff nD τ sig (Elt F) Λ₀ .tc) α}
    (fd : Buf (Elt F) ((oRcv : Memref sig .tc .vmem S8x8x64 .f32).view.loc (peer c : Thread nD τ))) (W : Waits sig Unit) :
    iprop(cellInv EX (plan m) (K (c, 1)) (cell c 1) ∗ cellInv EX (plan m) (K (peer c, 2)) (cell (peer c) 2)
        ∗ held c oSnd (outSent m c) ∗ held (peer c) oRcv fd
        ∗ owes (c : Thread nD τ) (owedCopies c) W
        ∗ dutyTok EX (cell c 1) 0 () ∗ reached EX (cell c 1) 0
        ∗ dutyTok EX (cell (peer c) 2) 0 () ∗ reached EX (cell (peer c) 2) 0)
      ⊢ iprop(((cred (tallyAt (cell c 1) () N0) ∗ owes (c : Thread nD τ) (tallyAt (cell (peer c) 4) () N1) W)
            -∗ wp frame (wpE (defs₀ (F := F)) noVar (c : Thread nD τ) none) Set.univ (k ⟨⟩) Q)
          -∗ wp frame (wpE (defs₀ (F := F)) noVar (c : Thread nD τ) none) Set.univ
              (.op (.enqueueDma oSnd (.remote (Dev.tc n : Thread nD τ) oRcv (role 1) hsc) (role 2) hsrc hdst hsem) k) Q) := by
  subst hn
  unfold held
  exact Rounds.wp_send_pointsTo noVar EX (plan m) (c : Thread nD τ) none (κ₁ := K (c, 1)) (κ₂ := K (peer c, 2))
    (r₁ := 0) (r₂ := 0) (d₁ := ()) (d₂ := ()) (fd := fd)
    (by rw [plan_duties]; exact Finset.mem_singleton_self _) (by rw [plan_duties]; exact Finset.mem_singleton_self _)
    () () N0 rfl (plan_amount m c 1) (plan_amount m (peer c) 2) (tallyAt (cell (peer c) 4) () N1) rfl (W := W)
    (by rw [plan_payload]; unfold pay held; iintro H; iexists _; iexact H)
    (by
      rw [plan_payload]; unfold pay held; rw [peer_peer]
      exact Entails.of_eq (congrArg _ (View.write_whole_univ _ _ _)))

/-- The copy of the row statistics, likewise; it is the last debt. -/
theorem copy_stats (c n : Dev nD) (hn : n = peer c) {hsc : (sRcv : Memref sig (Dev.tc n : Thread nD τ).2.kind .vmem S2x8x8 .f32).view.ref.isScScratch = false}
    {hsrc : (sSnd : Memref sig .tc .vmem S2x8x8 .f32).view.WordExact} {hdst : (sRcv : Memref sig .tc .vmem S2x8x8 .f32).view.WordExact}
    {hsem : DmaTarget.Typed .vmem (role 4) (.remote (Dev.tc n : Thread nD τ) (sRcv : Memref sig .tc .vmem S2x8x8 .f32) (role 3) hsc)}
    {α : Type} {Q : α → sProp 𝕄} {k : PUnit → Prog (TpuEff nD τ sig (Elt F) Λ₀ .tc) α}
    (f : Buf (Elt F) ((sSnd : Memref sig .tc .vmem S2x8x8 .f32).view.loc (c : Thread nD τ)))
    (fd : Buf (Elt F) ((sRcv : Memref sig .tc .vmem S2x8x8 .f32).view.loc (peer c : Thread nD τ))) (W : Waits sig Unit) :
    iprop(cellInv EX (plan m) (K (c, 3)) (cell c 3) ∗ cellInv EX (plan m) (K (peer c, 4)) (cell (peer c) 4)
        ∗ held c sSnd ((sSnd.access bot : View sig .tc _ _ _).write (Elt F) ((sSnd.access top : View sig .tc _ _ _).write (Elt F) f (maxSent m c) Finset.univ)
          (sumSent m c) Finset.univ) ∗ held (peer c) sRcv fd
        ∗ owes (c : Thread nD τ) (tallyAt (cell (peer c) 4) () N1) W
        ∗ dutyTok EX (cell c 3) 0 () ∗ reached EX (cell c 3) 0
        ∗ dutyTok EX (cell (peer c) 4) 0 () ∗ reached EX (cell (peer c) 4) 0)
      ⊢ iprop(((cred (tallyAt (cell c 3) () N1) ∗ owes (c : Thread nD τ) 0 W)
            -∗ wp frame (wpE (defs₀ (F := F)) noVar (c : Thread nD τ) none) Set.univ (k ⟨⟩) Q)
          -∗ wp frame (wpE (defs₀ (F := F)) noVar (c : Thread nD τ) none) Set.univ
              (.op (.enqueueDma sSnd (.remote (Dev.tc n : Thread nD τ) sRcv (role 3) hsc) (role 4) hsrc hdst hsem) k) Q) := by
  subst hn
  unfold held
  exact Rounds.wp_send_pointsTo noVar EX (plan m) (c : Thread nD τ) none (κ₁ := K (c, 3)) (κ₂ := K (peer c, 4))
    (r₁ := 0) (r₂ := 0) (d₁ := ()) (d₂ := ()) (fd := fd)
    (by rw [plan_duties]; exact Finset.mem_singleton_self _) (by rw [plan_duties]; exact Finset.mem_singleton_self _)
    () () N1 rfl (plan_amount m c 3) (plan_amount m (peer c) 4) 0 (by rw [zero_add]) (W := W)
    (by rw [plan_payload]; unfold pay held; iintro H; iexists _; iexact H)
    (by
      rw [plan_payload]; unfold pay held; rw [peer_peer]
      iintro H; iexists _
      isplitr; · ipureintro; exact stats_copied m c f fd
      iexact H)

/-- A wait for the whole of a cell's payment, owing `O`: it brings what the cell hands over. -/
theorem wait_cell (c : Dev nD) (k : Fin 5) {w : TpuEff nD τ sig (Elt F) Λ₀ .tc PUnit} {n : ℕ} (hn : n = amt k)
    (hw : ∀ R : PUnit → sProp 𝕄, wpE (defs₀ (F := F)) noVar (c : Thread nD τ) none Set.univ w R = waitSpec (c : Thread nD τ) Set.univ (role k) n R)
    {α : Type} {Q : α → sProp 𝕄} {p : PUnit → Prog (TpuEff nD τ sig (Elt F) Λ₀ .tc) α} (O : CellTallies nD τ sig Unit) (W : Waits sig Unit) :
    iprop(cellInv EX (plan m) (K (c, k)) (cell c k) ∗ cred (tallyAt (cell c k) () n) ∗ owes (c : Thread nD τ) O W
        ∗ MayWait (c : Thread nD τ) (role k) () O ∗ atPos EX (cell c k) 0 ∅ 0)
      ⊢ iprop(((owes (c : Thread nD τ) O (insert (role k, ()) W) ∗ atPos EX (cell c k) 1 ∅ 0 ∗ pay m k c)
            -∗ wp frame (wpE (defs₀ (F := F)) noVar (c : Thread nD τ) none) Set.univ (p ⟨⟩) Q)
          -∗ wp frame (wpE (defs₀ (F := F)) noVar (c : Thread nD τ) none) Set.univ (.op w p) Q) := by
  iintro ⟨#HI, Hc, HO, HM, Ha⟩ Hk
  iapply (Rounds.wp_wait_rest_token noVar EX (plan m) (c : Thread nD τ) none (κ := K (c, k)) hw (Set.mem_univ _) () (O := O) (W := W)
      (R := 0) (m := 0) (T := ∅) (by rw [plan_expect, hn, Nat.zero_add])) $$ [Hc HO HM Ha]
  · isplitr; · iexact HI
    isplitl [Hc]; · iexact Hc
    isplitl [HO]; · iexact HO
    isplitl [HM]; · iexact HM
    iexact Ha
  iintro ⟨HO, Ha, -, Hp⟩
  iapply Hk
  isplitl [HO]; · iexact HO
  isplitl [Ha]; · iexact Ha
  ihave Hq := (Entails.of_eq (plan_rest m c k)) $$ Hp
  iexact Hq

/-- A cell past its one round closes: its counter is the device's again, at zero. -/
theorem close_cell (c : Dev nD) (k : Fin 5) :
    iprop(cellInv EX (plan m) (K (c, k)) (cell c k) ∗ atPos EX (cell c k) 1 ∅ 0) ⊢ (|={Set.univ}=> semVal (cell c k) 0 : sProp 𝕄) :=
  Rounds.cell_close EX (plan m) (Set.mem_univ (K (c, k))) (fun h => h) (R := 1) (plan_over m (cell c k))

end Copies

/-! ## Whole-buffer accesses -/

section Access

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

variable (F)

/-- Loading a whole staged operand or a whole exchange buffer reads what it holds: the queries, -/
theorem load_q (f : (cc0_stg0_0 : Ref sig .tc).ty.Contents (Elt F)) :
    (Memref.whole cc0_stg0_0 : Memref sig .tc .vmem S8x1x8x64 .f32).view.readAt (Elt F)
      (Rect.unit (s := S8x1x8x64) ![0, 0, 0, 0] S8x1x8x64.size inb_S8x1x8x64_S8x1x8x64_0_0_0_0).toLoadRect f = f :=
  Memref.readAt_unit_zero (Elt F) cc0_stg0_0 zeros4 _ f
/-- the keys, -/
theorem load_k (f : (cc0_stg1_0 : Ref sig .tc).ty.Contents (Elt F)) :
    (Memref.whole cc0_stg1_0 : Memref sig .tc .vmem S64x16x8x64 .f32).view.readAt (Elt F)
      (Rect.unit (s := S64x16x8x64) ![0, 0, 0, 0] S64x16x8x64.size inb_S64x16x8x64_S64x16x8x64_0_0_0_0).toLoadRect f = f :=
  Memref.readAt_unit_zero (Elt F) cc0_stg1_0 zeros4 _ f
/-- the values, -/
theorem load_v (f : (cc0_stg2_0 : Ref sig .tc).ty.Contents (Elt F)) :
    (Memref.whole cc0_stg2_0 : Memref sig .tc .vmem S64x16x8x64 .f32).view.readAt (Elt F)
      (Rect.unit (s := S64x16x8x64) ![0, 0, 0, 0] S64x16x8x64.size inb_S64x16x8x64_S64x16x8x64_0_0_0_0).toLoadRect f = f :=
  Memref.readAt_unit_zero (Elt F) cc0_stg2_0 zeros4 _ f
/-- the block table, -/
theorem load_b (f : (cc0_stg3_0 : Ref sig .tc).ty.Contents (Elt F)) :
    (Memref.whole cc0_stg3_0 : Memref sig .tc .vmem S8x64 .i32).view.readAt (Elt F)
      (Rect.unit (s := S8x64) ![0, 0] S8x64.size inb_S8x64_S8x64_0_0).toLoadRect f = f :=
  Memref.readAt_unit_zero (Elt F) cc0_stg3_0 zeros2 _ f
/-- the live page counts, -/
theorem load_n (f : (cc0_stg4_0 : Ref sig .tc).ty.Contents (Elt F)) :
    (Memref.whole cc0_stg4_0 : Memref sig .tc .vmem S8x1 .i32).view.readAt (Elt F)
      (Rect.unit (s := S8x1) ![0, 0] S8x1.size inb_S8x1_S8x1_0_0).toLoadRect f = f :=
  Memref.readAt_unit_zero (Elt F) cc0_stg4_0 zeros2 _ f
/-- the landed output. -/
theorem load_landed (f : (cc0_scratch1 : Ref sig .tc).ty.Contents (Elt F)) :
    (oRcv : Memref sig .tc .vmem S8x8x64 .f32).view.readAt (Elt F)
      (Rect.unit (s := S8x8x64) ![0, 0, 0] S8x8x64.size inb_S8x8x64_S8x8x64_0_0_0).toLoadRect f = f :=
  Memref.readAt_unit_zero (Elt F) cc0_scratch1 zeros3 _ f
/-- Storing to the whole of the output's send buffer, or of the result, leaves exactly what is stored. -/
theorem store_out (f w : (cc0_scratch0 : Ref sig .tc).ty.Contents (Elt F)) :
    ((oSnd : Memref sig .tc .vmem S8x8x64 .f32).access (Rect.unit (s := S8x8x64) ![0, 0, 0] S8x8x64.size inb_S8x8x64_S8x8x64_0_0_0)
      : View sig .tc _ _ _).write (Elt F) f w Finset.univ = w :=
  Memref.write_access_unit_zero_univ (Elt F) cc0_scratch0 zeros3 _ f w
theorem store_result (f w : (cc0_stg5_0 : Ref sig .tc).ty.Contents (Elt F)) :
    ((Memref.whole cc0_stg5_0 : Memref sig .tc .vmem S8x1x8x64 .f32).access
      (Rect.unit (s := S8x1x8x64) ![0, 0, 0, 0] S8x1x8x64.size inb_S8x1x8x64_S8x1x8x64_0_0_0_0)
      : View sig .tc _ _ _).write (Elt F) f w Finset.univ = w :=
  Memref.write_access_unit_zero_univ (Elt F) cc0_stg5_0 zeros4 _ f w

end Access

/-! ## The body -/

/-- A staging buffer of device `c` holding `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns staged; simp only [Memref.view_whole, View.read_whole, View.set_whole]

/-- What the body starts from, with the operands as they are staged. -/
def before (K : Dev nD × Fin 5 → ℕ) (c : Dev nD) : sProp 𝕄 :=
  iprop((ghost m K c ∗ (cred (tallyAt (cell c 0) () 1) ∗ cred (tallyAt (cell c 2) () N0) ∗ cred (tallyAt (cell c 4) () N1)) ∗ levAts waitIx level)
    ∗ buffers c ∗ (∃ W, owes (c : Thread nD τ) (owedAll c) W)
    ∗ ((c : Thread nD τ).loc cc0_stg0_0 ↦{fullShare} inQ m c) ∗ ((c : Thread nD τ).loc cc0_stg1_0 ↦{fullShare} inK m c)
    ∗ ((c : Thread nD τ).loc cc0_stg2_0 ↦{fullShare} inV m c) ∗ ((c : Thread nD τ).loc cc0_stg3_0 ↦{fullShare} inB m c)
    ∗ ((c : Thread nD τ).loc cc0_stg4_0 ↦{fullShare} inN m c) ∗ (∃ f, ((c : Thread nD τ).loc cc0_stg5_0) ↦{fullShare} f))

/-- What it leaves. -/
def after (c : Dev nD) : sProp 𝕄 :=
  iprop((buffers c ∗ quiet c) ∗ (∃ W, owes (c : Thread nD τ) 0 W)
    ∗ ((c : Thread nD τ).loc cc0_stg0_0 ↦{fullShare} inQ m c) ∗ ((c : Thread nD τ).loc cc0_stg1_0 ↦{fullShare} inK m c)
    ∗ ((c : Thread nD τ).loc cc0_stg2_0 ↦{fullShare} inV m c) ∗ ((c : Thread nD τ).loc cc0_stg3_0 ↦{fullShare} inB m c)
    ∗ ((c : Thread nD τ).loc cc0_stg4_0 ↦{fullShare} inN m c) ∗ ((c : Thread nD τ).loc cc0_stg5_0 ↦{fullShare} result m c))

set_option maxHeartbeats 1600000 in
/-- The body, run one effect at a time from `before` to `after`. -/
theorem run_body (K : Dev nD × Fin 5 → ℕ) (c : Dev nD) (Kt : PUnit → sProp 𝕄) :
    iprop(before m K c ∗ (after m c -∗ Kt ⟨⟩))
      ⊢ wp frame (wpE (defs₀ (F := F)) noVar c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold before ghost known opened places rights buffers
  iintro ⟨⟨⟨⟨⟨⟨#I0, #I1, #I2, #I3, #I4⟩, #P0, #P2, #P4⟩, ⟨#R1, #R2, #R3, #R4, #RP⟩, ⟨A0, A1, A2, A3, A4⟩, ⟨T0, T1, T2, T3, T4⟩⟩, ⟨C0, C2, C4⟩, #Hlev⟩,
    ⟨⟨%fo, Hos⟩, ⟨%fr, Hor⟩, ⟨%gs, Hss⟩, ⟨%gr, Hsr⟩⟩, ⟨%W, HO⟩, Hq, Hk, Hv, Hb, Hn, ⟨%fx, Hx⟩⟩, Hend⟩
  simp only [signal_dest c]
  -- the signal: the two landing buffers go to the peer
  iapply (Rounds.wp_signal noVar EX (plan m) (c : Thread nD τ) none (dst := (peer c : Thread nD τ)) (κ := K (peer c, 0))
      (d := ()) ((Finset.ext_iff.mp (plan_duties m (peer c) 0) ()).mpr (Finset.mem_singleton_self _)) ((plan_amount m (peer c) 0).trans (by decide)) () (owedCopies c) rfl)
    $$ [HO T0 Hor Hsr]
  · isplitr; · iexact P0
    isplitl [HO]; · iexact HO
    isplitl [T0]; · iexact T0
    isplitl [Hor Hsr]
    · iapply (Entails.of_eq (plan_payload m (peer c) 0).symm)
      unfold pay; dsimp only; rw [peer_peer]
      isplitl [Hor]; · iexists fr; iexact Hor
      isplitl [Hsr]; · iexists gr; iexact Hsr
      isplitr; · iexact R2
      iexact R4
    iexact RP
  iintro HO
  -- the wait for the peer's signal
  iapply (wait_cell m K c 0 (by decide) (wpE_semWait_eq noVar (c : Thread nD τ) none Set.univ) (owedCopies c) W) $$ [C0 HO A0]
  · isplitr; · iexact I0
    isplitl [C0]; · iexact C0
    isplitl [HO]; · iexact HO
    isplitr; · iapply (mayWait_barrier c); iexact Hlev
    iexact A0
  iintro ⟨HO, A0, Hp⟩
  unfold pay; dsimp only
  icases Hp with ⟨⟨%fp, Hop⟩, ⟨%gp, Hsp⟩, #RP2, #RP4⟩
  -- the operands
  iapply (wp_load noVar (c : Thread nD τ) none Set.univ (m := (Memref.whole cc0_stg3_0 : Memref sig .tc .vmem S8x64 .i32)) (Finset.subset_univ _)) $$ Hb; iintro Hb
  rw [load_b]
  iapply (wp_load noVar (c : Thread nD τ) none Set.univ (m := (Memref.whole cc0_stg4_0 : Memref sig .tc .vmem S8x1 .i32)) (Finset.subset_univ _)) $$ Hn; iintro Hn
  rw [load_n]
  iapply (wp_load noVar (c : Thread nD τ) none Set.univ (m := (Memref.whole cc0_stg0_0 : Memref sig .tc .vmem S8x1x8x64 .f32)) (Finset.subset_univ _)) $$ Hq; iintro Hq
  rw [load_q]
  iapply (wp_load noVar (c : Thread nD τ) none Set.univ (m := (Memref.whole cc0_stg1_0 : Memref sig .tc .vmem S64x16x8x64 .f32)) (Finset.subset_univ _)) $$ Hk; iintro Hk
  rw [load_k]
  iapply (wp_load noVar (c : Thread nD τ) none Set.univ (m := (Memref.whole cc0_stg2_0 : Memref sig .tc .vmem S64x16x8x64 .f32)) (Finset.subset_univ _)) $$ Hv; iintro Hv
  rw [load_v]
  -- the send buffers are filled
  ihave Hos := (Entails.of_eq (held_oSnd c fo)) $$ Hos
  iapply (wp_load noVar (c : Thread nD τ) none Set.univ (m := oSnd) (Finset.subset_univ _)) $$ Hos; iintro Hos
  iapply (wp_store noVar (c : Thread nD τ) none Set.univ (m := oSnd) (r := Rect.unit (s := S8x8x64) ![0, 0, 0] S8x8x64.size inb_S8x8x64_S8x8x64_0_0_0) (Mk := Finset.univ) (Finset.subset_univ _)) $$ Hos; iintro Hos
  rw [store_out]
  ihave Hss := (Entails.of_eq (held_sSnd c gs)) $$ Hss
  iapply (wp_load noVar (c : Thread nD τ) none Set.univ (m := sSnd) (Finset.subset_univ _)) $$ Hss; iintro Hss
  iapply (wp_store noVar (c : Thread nD τ) none Set.univ (m := sSnd) (r := top) (Mk := Finset.univ) (Finset.subset_univ _)) $$ Hss; iintro Hss
  iapply (wp_load noVar (c : Thread nD τ) none Set.univ (m := sSnd) (Finset.subset_univ _)) $$ Hss; iintro Hss
  iapply (wp_store noVar (c : Thread nD τ) none Set.univ (m := sSnd) (r := bot) (Mk := Finset.univ) (Finset.subset_univ _)) $$ Hss; iintro Hss
  -- the two copies
  iapply (copy_out m K c _ (copy_dest c) fp (insert (role 0, ()) W)) $$ [Hos Hop HO T1 T2]
  · isplitr; · iexact I1
    isplitr; · iexact P2
    isplitl [Hos]; · rw [held_oSnd]; unfold outSent score weight; iexact Hos
    isplitl [Hop]; · iexact Hop
    isplitl [HO]; · iexact HO
    isplitl [T1]; · iexact T1
    isplitr; · iexact R1
    isplitl [T2]; · iexact T2
    iexact RP2
  iintro ⟨C1, HO⟩
  iapply (copy_stats m K c _ (copy_dest' c) gs gp (insert (role 0, ()) W)) $$ [Hss Hsp HO T3 T4]
  · isplitr; · iexact I3
    isplitr; · iexact P4
    isplitl [Hss]; · rw [held_sSnd]; unfold maxSent sumSent rowMax score weight; iexact Hss
    isplitl [Hsp]; · iexact Hsp
    isplitl [HO]; · iexact HO
    isplitl [T3]; · iexact T3
    isplitr; · iexact R3
    isplitl [T4]; · iexact T4
    iexact RP4
  iintro ⟨C3, HO⟩
  -- the four waits
  iapply (wait_cell m K c 1 (show (oSnd : Memref sig .tc .vmem S8x8x64 .f32).view.dmaCredit = amt 1 from rfl) (wpE_waitDma2_eq noVar (c : Thread nD τ) none Set.univ) 0 _) $$ [C1 HO A1]
  · isplitr; · iexact I1
    isplitl [C1]; · iexact C1
    isplitl [HO]; · iexact HO
    isplitr; · rw [MayWait_zero]; iempintro
    iexact A1
  iintro ⟨HO, A1, Hos⟩
  iapply (wait_cell m K c 2 (show (oRcv : Memref sig .tc .vmem S8x8x64 .f32).view.dmaCredit = amt 2 from rfl) (wpE_waitDma2_eq noVar (c : Thread nD τ) none Set.univ) 0 _) $$ [C2 HO A2]
  · isplitr; · iexact I2
    isplitl [C2]; · iexact C2
    isplitl [HO]; · iexact HO
    isplitr; · rw [MayWait_zero]; iempintro
    iexact A2
  iintro ⟨HO, A2, Hor⟩
  iapply (wait_cell m K c 3 (show (sSnd : Memref sig .tc .vmem S2x8x8 .f32).view.dmaCredit = amt 3 from rfl) (wpE_waitDma2_eq noVar (c : Thread nD τ) none Set.univ) 0 _) $$ [C3 HO A3]
  · isplitr; · iexact I3
    isplitl [C3]; · iexact C3
    isplitl [HO]; · iexact HO
    isplitr; · rw [MayWait_zero]; iempintro
    iexact A3
  iintro ⟨HO, A3, Hss⟩
  iapply (wait_cell m K c 4 (show (sRcv : Memref sig .tc .vmem S2x8x8 .f32).view.dmaCredit = amt 4 from rfl) (wpE_waitDma2_eq noVar (c : Thread nD τ) none Set.univ) 0 _) $$ [C4 HO A4]
  · isplitr; · iexact I4
    isplitl [C4]; · iexact C4
    isplitl [HO]; · iexact HO
    isplitr; · rw [MayWait_zero]; iempintro
    iexact A4
  iintro ⟨HO, A4, Hsr⟩
  unfold pay; dsimp only
  icases Hsr with ⟨%fs, %hfs, Hsr⟩
  -- every cell closes at zero
  imod (close_cell m K c 0) $$ [A0] with Z0
  · isplitr; · iexact I0
    iexact A0
  imod (close_cell m K c 1) $$ [A1] with Z1
  · isplitr; · iexact I1
    iexact A1
  imod (close_cell m K c 2) $$ [A2] with Z2
  · isplitr; · iexact I2
    iexact A2
  imod (close_cell m K c 3) $$ [A3] with Z3
  · isplitr; · iexact I3
    iexact A3
  imod (close_cell m K c 4) $$ [A4] with Z4
  · isplitr; · iexact I4
    iexact A4
  -- the peer's state is read and the merged result stored
  ihave Hsr := (Entails.of_eq (held_sRcv c fs)) $$ Hsr
  iapply (wp_load noVar (c : Thread nD τ) none Set.univ (m := sRcv) (Finset.subset_univ _)) $$ Hsr; iintro Hsr
  rw [hfs.1]
  iapply (wp_load noVar (c : Thread nD τ) none Set.univ (m := sRcv) (Finset.subset_univ _)) $$ Hsr; iintro Hsr
  rw [hfs.2]
  ihave Hor := (Entails.of_eq (held_oRcv c _)) $$ Hor
  iapply (wp_load noVar (c : Thread nD τ) none Set.univ (m := oRcv) (Finset.subset_univ _)) $$ Hor; iintro Hor
  rw [load_landed]
  iapply (wp_load noVar (c : Thread nD τ) none Set.univ (m := (Memref.whole cc0_stg5_0 : Memref sig .tc .vmem S8x1x8x64 .f32)) (Finset.subset_univ _)) $$ Hx; iintro Hx
  iapply (wp_store noVar (c : Thread nD τ) none Set.univ (m := (Memref.whole cc0_stg5_0 : Memref sig .tc .vmem S8x1x8x64 .f32)) (r := Rect.unit (s := S8x1x8x64) ![0, 0, 0, 0] S8x1x8x64.size inb_S8x1x8x64_S8x1x8x64_0_0_0_0) (Mk := Finset.univ) (Finset.subset_univ _)) $$ Hx; iintro Hx
  rw [store_result, wp_ret]; imodintro
  iapply Hend
  unfold after buffers quiet
  isplitl [Hos Hor Hss Hsr Z0 Z1 Z2 Z3 Z4]
  · isplitl [Hos Hor Hss Hsr]
    · isplitl [Hos]; · iexact Hos
      isplitl [Hor]
      · ihave Hor := (Entails.of_eq (held_oRcv c _).symm) $$ Hor
        iexists _; iexact Hor
      isplitl [Hss]; · iexact Hss
      ihave Hsr := (Entails.of_eq (held_sRcv c _).symm) $$ Hsr
      iexists _; iexact Hsr
    · isplitl [Z0]; · iexact Z0
      isplitl [Z1]; · iexact Z1
      isplitl [Z2]; · iexact Z2
      isplitl [Z3] <;> iassumption
  isplitl [HO]; · iexists _; iexact HO
  isplitl [Hq]; · iexact Hq
  isplitl [Hk]; · iexact Hk
  isplitl [Hv]; · iexact Hv
  isplitl [Hb]; · iexact Hb
  isplitl [Hn]; · iexact Hn
  unfold result rowSum outPart rowMax score weight; iexact Hx

end Cert.Swap

end
-- ==== Proof.Run.lean ====
/-
# The launch

The four devices' bodies run together: the semaphores and the ghost state of the launch become the twenty cells and their
tokens, dealt so that every device holds the right to its own five payments; then the program terminates on every
schedule with each device's result the merged state, its operands unchanged and every semaphore counter at zero.
-/
module

public import proofs.«01_k».proof.Proof.Body
public import proofs.«01_k».proof.Proof.Gen.KernelIdeal.Points
public import Idealize.ShloMosaic.Lib.Pipeline.CollectiveSegs
public import Idealize.ShloMosaic.Lib.Pipeline.Value

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body at the pipeline's one point -/

/-- The pipeline's one point. -/
abbrev only : Fin cfg0.N := t0_0

theorem only_eq (t : Fin cfg0.N) : t = only := fin_N0 t

/-- Each operand is staged as the launch memory has it. -/
theorem staged_q (c : Dev nD) (d : _) : (dats m 0 c).before (0 : Fin 6) only d = inQ m c := by
  unfold Dat.before; rw [if_pos (fetch0_0 only)]; rfl
theorem staged_k (c : Dev nD) (d : _) : (dats m 0 c).before (1 : Fin 6) only d = inK m c := by
  unfold Dat.before; rw [if_pos (fetch0_1 only)]; rfl
theorem staged_v (c : Dev nD) (d : _) : (dats m 0 c).before (2 : Fin 6) only d = inV m c := by
  unfold Dat.before; rw [if_pos (fetch0_2 only)]; rfl
theorem staged_b (c : Dev nD) (d : _) : (dats m 0 c).before (3 : Fin 6) only d = inB m c := by
  unfold Dat.before; rw [if_pos (fetch0_3 only)]; rfl
theorem staged_n (c : Dev nD) (d : _) : (dats m 0 c).before (4 : Fin 6) only d = inN m c := by
  unfold Dat.before; rw [if_pos (fetch0_4 only)]; rfl

/-- What the pipeline hands the body. -/
def handed (c : Dev nD) : sProp 𝕄 :=
  iprop((start m c ∗ buffers c) ∗ (dats m 0 c).owesAt () only.castSucc
    ∗ (∃ d, staged c cc0_stg0_0 ((dats m 0 c).before (0 : Fin 6) only d))
    ∗ (∃ d, staged c cc0_stg1_0 ((dats m 0 c).before (1 : Fin 6) only d))
    ∗ (∃ d, staged c cc0_stg2_0 ((dats m 0 c).before (2 : Fin 6) only d))
    ∗ (∃ d, staged c cc0_stg3_0 ((dats m 0 c).before (3 : Fin 6) only d))
    ∗ (∃ d, staged c cc0_stg4_0 ((dats m 0 c).before (4 : Fin 6) only d))
    ∗ (∃ d, staged c cc0_stg5_0 ((dats m 0 c).before (5 : Fin 6) only d)))

/-- What it takes back. -/
def returned (c : Dev nD) : sProp 𝕄 :=
  iprop((buffers c ∗ quiet c) ∗ (dats m 0 c).owesAt () only.succ
    ∗ staged c cc0_stg0_0 (inQ m c) ∗ staged c cc0_stg1_0 (inK m c) ∗ staged c cc0_stg2_0 (inV m c)
    ∗ staged c cc0_stg3_0 (inB m c) ∗ staged c cc0_stg4_0 (inN m c) ∗ staged c cc0_stg5_0 (result m c))

theorem handed_before (c : Dev nD) : handed m c ⊢ iprop(∃ K, before m K c) := by
  unfold handed start before
  simp only [staged_q, staged_k, staged_v, staged_b, staged_n]
  unfold Dat.owesAt Pipeline.owesWithin
  rw [show (dats m 0 c).owed only.castSucc = owedAll c from rfl]
  iintro ⟨⟨⟨⟨%K, Hg⟩, Hc, Hl⟩, Hbuf⟩, ⟨%W, %hW, HO⟩, ⟨%d0, %f0, %h0, H0⟩, ⟨%d1, %f1, %h1, H1⟩, ⟨%d2, %f2, %h2, H2⟩, ⟨%d3, %f3, %h3, H3⟩,
    ⟨%d4, %f4, %h4, H4⟩, ⟨%d5, %f5, %h5, H5⟩⟩
  subst h0 h1 h2 h3 h4
  iexists K
  isplitl [Hg Hc Hl]
  · isplitl [Hg]; · iexact Hg
    isplitl [Hc] <;> iassumption
  isplitl [Hbuf]; · iexact Hbuf
  isplitl [HO]; · iexists W; iexact HO
  isplitl [H0]; · iexact H0
  isplitl [H1]; · iexact H1
  isplitl [H2]; · iexact H2
  isplitl [H3]; · iexact H3
  isplitl [H4]; · iexact H4
  iexists f5; iexact H5

theorem after_returned (c : Dev nD) : after m c ⊢ returned m c := by
  unfold returned after
  unfold Dat.owesAt Pipeline.owesWithin
  rw [show (dats m 0 c).owed only.succ = 0 from rfl]
  iintro ⟨HQ, ⟨%W, HO⟩, H0, H1, H2, H3, H4, H5⟩
  isplitl [HQ]; · iexact HQ
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 8000 in
/-- The pipeline's obligation on the body of device `c`. -/
theorem body_ok (c : Dev nD) : BodyObligation (dats (F := F) m 0 c) (defs₀ (F := F)) noVar () Set.univ := fun t => by
  rw [only_eq t]
  have hW : ∀ Φ : Fin cfg0.W → sProp 𝕄, bigSep Finset.univ Φ
      = iprop(Φ (0 : Fin 6) ∗ Φ (1 : Fin 6) ∗ Φ (2 : Fin 6) ∗ Φ (3 : Fin 6) ∗ Φ (4 : Fin 6) ∗ Φ (5 : Fin 6)) := fun Φ => bigSep_W0 Φ
  rw [hW, hW]
  simp only [owns_staged]
  show handed m c ⊢ wp frame (wpE (defs₀ (F := F)) noVar c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5) (fun _ => returned m c)
  iintro H
  ihave H := (handed_before m c) $$ H
  icases H with ⟨%K, H⟩
  iapply (run_body m K c fun _ => returned m c)
  isplitl [H]; · iexact H
  iintro H; iapply (after_returned m c); iexact H

/-! ## The launch's ghost state -/

/-- The kernel's own semaphores. -/
abbrev ownSem : Fin 4 → SemLoc sig
  | 0 => role 1 | 1 => role 2 | 2 => role 3 | 3 => role 4

theorem ownSem_ok : Pipeline.OwnSemFacts cfg0.spec ownSem := by decide

theorem share_full (c : Dev nD) (w : Fin cfg0.W) : (dats m 0 c).share w = fullShare := by unfold Dat.share; split <;> rfl

/-- Cells of different devices or roles are different. -/
theorem cell_injective : Function.Injective (fun ck : Dev nD × Fin 5 => cell ck.1 ck.2) := by
  rintro ⟨c, k⟩ ⟨c', k'⟩ h
  have h1 : c = c' := congrArg (fun g : GSem nD τ sig => g.1.1) h
  have h2 : k = k' := role_injective (congrArg Prod.snd h)
  rw [h1, h2]

/-- The twenty cells, -/
def allCells : Finset (GSem nD τ sig) := Finset.univ.map ⟨fun ck : Dev nD × Fin 5 => cell ck.1 ck.2, cell_injective⟩
/-- and the token of each one's one payment. -/
def allToks : Finset (GSem nD τ sig × ℕ × Unit) :=
  Finset.univ.map ⟨fun ck : Dev nD × Fin 5 => (cell ck.1 ck.2, 0, ()), fun a b h => cell_injective (congrArg Prod.fst h)⟩

/-- The launch's element: the pipeline's, and the exchange's. -/
def launchElt : UU :=
  (initOf (Pipeline.cells cfgs cellOf_inj) (Pipeline.launchToks cfgs cellOf_inj), initOf allCells allToks)

/-- What the element deals device `c`: its cells' states, its places and marks, and its cells' tokens. -/
def dealt (c : Dev nD) : sProp 𝕄 :=
  iprop((bigSep Finset.univ fun k : Fin 5 => roundState EX (plan m) (cell c k) 0)
    ∗ (bigSep Finset.univ fun k : Fin 5 => reached EX (cell c k) 0)
    ∗ (bigSep Finset.univ fun k : Fin 5 => atPos EX (cell c k) 0 ∅ 0)
    ∗ bigSep Finset.univ fun k : Fin 5 => dutyTok EX (cell c k) 0 ())

theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem deal : BI.own (EX (initOf allCells allToks)) ⊢ (|==> bigSep Finset.univ (dealt m) : sProp 𝕄) := by
  have hc (Φ : GSem nD τ sig → sProp 𝕄) : bigSep allCells Φ = bigSep Finset.univ fun c : Dev nD => bigSep Finset.univ fun k : Fin 5 => Φ (cell c k) := by
    unfold allCells; rw [bigSep_map, bigSep_univ_prod]; rfl
  have ht : bigSep allToks (fun x => (dutyTok EX x.1 x.2.1 x.2.2 : sProp 𝕄))
      = bigSep Finset.univ fun c : Dev nD => bigSep Finset.univ fun k : Fin 5 => dutyTok EX (cell c k) 0 () := by
    unfold allToks; rw [bigSep_map, bigSep_univ_prod]; rfl
  iintro H
  imod (Rounds.fund EX (plan m) allCells allToks) $$ H with ⟨HS, HR, HA, HT⟩
  imodintro
  ihave HS := (Entails.of_eq (hc fun g => roundState EX (plan m) g 0)) $$ HS
  ihave HR := (Entails.of_eq (hc fun g => reached EX g 0)) $$ HR
  ihave HA := (Entails.of_eq (hc fun g => atPos EX g 0 ∅ 0)) $$ HA
  ihave HT := (Entails.of_eq ht) $$ HT
  unfold dealt; simp only [bigSep_sep']
  isplitl [HS]; · iexact HS
  isplitl [HR]; · iexact HR
  isplitl [HA] <;> iassumption

/-- The kernel's own semaphores are those of four roles; -/
theorem ownSems_eq (c : Dev nD) : (Pipeline.ownSems0 (Ix := Unit) (Name := ℕ) (U := UU) (Lvl := ℕ) (Val := Elt F) (τ := τ) ownSem c : sProp 𝕄)
    = iprop(semVal (cell c 1) 0 ∗ semVal (cell c 2) 0 ∗ semVal (cell c 3) 0 ∗ semVal (cell c 4) 0) := by
  rw [Pipeline.ownSems0_eq_of_list c ownSem [0, 1, 2, 3] (by decide) (by decide)]; rfl
/-- the barrier semaphore is the launch's. -/
theorem barSem_eq (c : Dev nD) : (unscopedSems0 c : sProp 𝕄) = semVal (cell c 0) 0 := by
  unfold unscopedSems0; rw [bigSep_eq_bigSepL_of_eq [SemLoc.reg barS] (by decide) (by decide)]; rfl

/-- One device's counters and cell states become its five invariants. -/
theorem open_cells (c : Dev nD) :
    iprop(Pipeline.ownSems0 (Ix := Unit) (Name := ℕ) (U := UU) (Lvl := ℕ) (Val := Elt F) (τ := τ) ownSem c ∗ unscopedSems0 c ∗ dealt m c)
      ⊢ |={Set.univ}=> iprop((bigSep Finset.univ fun k => iprop(∃ κ : ℕ, cellInv EX (plan m) κ (cell c k)))
          ∗ (bigSep Finset.univ fun k : Fin 5 => reached EX (cell c k) 0)
          ∗ (bigSep Finset.univ fun k : Fin 5 => atPos EX (cell c k) 0 ∅ 0)
          ∗ bigSep Finset.univ fun k : Fin 5 => dutyTok EX (cell c k) 0 ()) := by
  have hv : iprop((semVal (cell c 1) 0 ∗ semVal (cell c 2) 0 ∗ semVal (cell c 3) 0 ∗ semVal (cell c 4) 0) ∗ semVal (cell c 0) 0)
      ⊢ (bigSep Finset.univ fun k : Fin 5 => semVal (cell c k) 0 : sProp 𝕄) := by
    rw [five]
    iintro ⟨⟨H1, H2, H3, H4⟩, H0⟩
    isplitl [H0]; · iexact H0
    isplitl [H1]; · iexact H1
    isplitl [H2]; · iexact H2
    isplitl [H3] <;> iassumption
  have hi : iprop((bigSep Finset.univ fun k : Fin 5 => semVal (cell c k) 0) ∗ bigSep Finset.univ fun k : Fin 5 => roundState EX (plan m) (cell c k) 0)
      ⊢ (|={Set.univ}=> bigSep Finset.univ fun k => iprop(∃ κ : ℕ, cellInv EX (plan m) κ (cell c k)) : sProp 𝕄) := by
    rw [← bigSep_sep']
    exact (bigSep_mono fun k _ => (Rounds.body_intro EX (plan m) (cell c k)).trans inv_alloc).trans (bigSep_fupd _ _)
  rw [ownSems_eq, barSem_eq]
  unfold dealt
  iintro ⟨Ho, Hb, HS, HR, HA, HT⟩
  ihave Hv := hv $$ [Ho Hb]
  · isplitl [Ho] <;> iassumption
  imod hi $$ [Hv HS] with HI
  · isplitl [Hv] <;> iassumption
  imodintro
  isplitl [HI]; · iexact HI
  isplitl [HR]; · iexact HR
  isplitl [HA] <;> iassumption

/-- Every device's invariants and marks. -/
def common (K : Dev nD × Fin 5 → ℕ) : sProp 𝕄 :=
  iprop((bigSep Finset.univ fun ck : Dev nD × Fin 5 => cellInv EX (plan m) (K ck) (cell ck.1 ck.2))
    ∗ bigSep Finset.univ fun ck : Dev nD × Fin 5 => reached EX (cell ck.1 ck.2) 0)

instance common_persistent (K : Dev nD × Fin 5 → ℕ) : BI.Persistent (common m K) := by unfold common; infer_instance

theorem common_inv (K : Dev nD × Fin 5 → ℕ) (c : Dev nD) (k : Fin 5) : common m K ⊢ cellInv EX (plan m) (K (c, k)) (cell c k) := by
  unfold common
  iintro ⟨H, -⟩
  have h : (bigSep Finset.univ fun ck : Dev nD × Fin 5 => (cellInv EX (plan m) (K ck) (cell ck.1 ck.2) : sProp 𝕄))
      ⊢ cellInv EX (plan m) (K (c, k)) (cell c k) := bigSep_elim (Finset.mem_univ (c, k))
  iapply h; iexact H

theorem common_mark (K : Dev nD × Fin 5 → ℕ) (c : Dev nD) (k : Fin 5) : common m K ⊢ reached EX (cell c k) 0 := by
  unfold common
  iintro ⟨-, H⟩
  have h : (bigSep Finset.univ fun ck : Dev nD × Fin 5 => (reached EX (cell ck.1 ck.2) 0 : sProp 𝕄))
      ⊢ reached EX (cell c k) 0 := bigSep_elim (Finset.mem_univ (c, k))
  iapply h; iexact H

theorem ghost_of (K : Dev nD × Fin 5 → ℕ) (c : Dev nD) : iprop(common m K ∗ places c ∗ rights c) ⊢ iprop(∃ K, ghost m K c) := by
  unfold ghost known opened
  iintro ⟨#H, HP, HR⟩
  iexists K
  isplitr
  · isplitr
    · isplitr; · iapply (common_inv m K c 0); iexact H
      isplitr; · iapply (common_inv m K c 1); iexact H
      isplitr; · iapply (common_inv m K c 2); iexact H
      isplitr; · iapply (common_inv m K c 3); iexact H
      iapply (common_inv m K c 4); iexact H
    isplitr; · iapply (common_inv m K (peer c) 0); iexact H
    isplitr; · iapply (common_inv m K (peer c) 2); iexact H
    iapply (common_inv m K (peer c) 4); iexact H
  isplitr
  · isplitr; · iapply (common_mark m K c 1); iexact H
    isplitr; · iapply (common_mark m K c 2); iexact H
    isplitr; · iapply (common_mark m K c 3); iexact H
    isplitr; · iapply (common_mark m K c 4); iexact H
    iapply (common_mark m K (peer c) 0); iexact H
  isplitl [HP] <;> iassumption

/-- The tokens of barrier and receive cells change hands within each pair. -/
theorem tokens_dealt : (bigSep Finset.univ fun c : Dev nD => bigSep Finset.univ fun k : Fin 5 => (dutyTok EX (cell c k) 0 () : sProp 𝕄))
    ⊢ bigSep Finset.univ fun c : Dev nD => rights c := by
  rw [bigSep_congr (s := Finset.univ) (fun (c : Dev nD) _ => five (F := F) (fun k => dutyTok EX (cell c k) 0 ()))]
  unfold rights
  simp only [bigSep_sep']
  rw [bigSep_univ_equiv pairing (fun c : Dev nD => (dutyTok EX (cell c 0) 0 () : sProp 𝕄)),
    bigSep_univ_equiv pairing (fun c : Dev nD => (dutyTok EX (cell c 2) 0 () : sProp 𝕄)),
    bigSep_univ_equiv pairing (fun c : Dev nD => (dutyTok EX (cell c 4) 0 () : sProp 𝕄))]
  exact Entails.refl _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All the devices' shares, made from what each opened. -/
theorem share_out :
    (bigSep Finset.univ fun c : Dev nD => iprop((bigSep Finset.univ fun k : Fin 5 => iprop(∃ κ : ℕ, cellInv EX (plan m) κ (cell c k)))
          ∗ (bigSep Finset.univ fun k : Fin 5 => reached EX (cell c k) 0)
          ∗ (bigSep Finset.univ fun k : Fin 5 => atPos EX (cell c k) 0 ∅ 0)
          ∗ bigSep Finset.univ fun k : Fin 5 => dutyTok EX (cell c k) 0 ()) : sProp 𝕄)
      ⊢ bigSep Finset.univ fun c => iprop(∃ K, ghost m K c) := by
  rw [bigSep_sep', bigSep_sep', bigSep_sep',
    ← bigSep_univ_prod (fun ck : Dev nD × Fin 5 => iprop(∃ κ : ℕ, cellInv EX (plan m) κ (cell ck.1 ck.2))),
    ← bigSep_univ_prod (fun ck : Dev nD × Fin 5 => (reached EX (cell ck.1 ck.2) 0 : sProp 𝕄)),
    bigSep_congr (s := Finset.univ) (fun (c : Dev nD) _ => five (F := F) (fun k => atPos EX (cell c k) 0 ∅ 0))]
  iintro ⟨HI, #HR, HA, HT⟩
  ihave HK := (BI.bigSep_exists_pi Finset.univ (fun (ck : Dev nD × Fin 5) (κ : ℕ) => (cellInv EX (plan m) κ (cell ck.1 ck.2) : sProp 𝕄))) $$ HI
  icases HK with ⟨%K, #HI⟩
  ihave HT := (tokens_dealt (F := F)) $$ HT
  iapply (with_persistent (R := common m K) (Φ := fun c => iprop(places c ∗ rights c)) fun c _ => ghost_of m K c)
  isplitr
  · unfold common; isplitl; · iexact HI
    iexact HR
  · iapply (Entails.of_eq (bigSep_sep' Finset.univ (fun c : Dev nD => (places c : sProp 𝕄)) rights).symm)
    isplitl [HA]; · unfold places; iexact HA
    iexact HT

theorem set_up : (bigSep Finset.univ fun c => iprop(Pipeline.ownSems0 (Ix := Unit) (Name := ℕ) (U := UU) (Lvl := ℕ) (Val := Elt F) (τ := τ) ownSem c
        ∗ unscopedSems0 c ∗ dealt m c) : sProp 𝕄)
    ⊢ |={Set.univ}=> bigSep Finset.univ fun c => iprop(∃ K, ghost m K c) :=
  ((bigSep_mono fun c _ => open_cells m c).trans (bigSep_fupd _ _)).trans (BI.fupd_mono (share_out m))

/-! ## The launch's credit -/

theorem cell_eq_iff {a b : Dev nD} {j k : Fin 5} : cell a j = cell b k ↔ a = b ∧ j = k :=
  ⟨fun h => by have := @cell_injective (a, j) (b, k) h; exact Prod.mk.injEq _ _ _ _ ▸ this, fun h => by rw [h.1, h.2]⟩

/-- What device `d` owes device `c`'s barrier and receive cells: their one payment if it is the peer, else nothing. -/
theorem owed_cell (d c : Dev nD) (k : Fin 5) (hk : k = 0 ∨ k = 2 ∨ k = 4) : owedAll d (cell c k) () = if d = peer c then amt k else 0 := by
  have hp : c = peer d ↔ d = peer c := ⟨fun h => by rw [h, peer_peer], fun h => by rw [h, peer_peer]⟩
  unfold owedAll owedCopies
  rw [Pi.add_apply, Finsupp.add_apply, Pi.add_apply, Finsupp.add_apply, tallyAt_apply, tallyAt_apply, tallyAt_apply]
  have e : ∀ (j : Fin 5) (n : ℕ), (if cell c k = cell (peer d) j ∧ () = () then n else 0) = if d = peer c ∧ k = j then n else 0 :=
    fun j n => if_congr (by rw [and_iff_left rfl, cell_eq_iff, hp]) rfl rfl
  rw [e, e, e]
  by_cases h : d = peer c
  · rcases hk with rfl | rfl | rfl <;> simp [h, amt]
  · simp [h]

theorem launch_cell (c : Dev nD) (k : Fin 5) (hk : k = 0 ∨ k = 2 ∨ k = 4) :
    tallyOn (cell c k) (launchCredit (Pipeline.owing owedAll) 0 (cell c k)) = (tallyAt (cell c k) () (amt k) : CellTallies nD τ sig Unit) := by
  unfold tallyAt; refine congrArg _ (Finsupp.ext fun u => ?_); cases u
  rw [Pipeline.launchCredit_owing, Finsupp.single_eq_same, Finset.sum_congr rfl fun d _ => owed_cell d c k hk,
    Finset.sum_ite_eq' Finset.univ (peer c) fun _ => amt k, if_pos (Finset.mem_univ _)]

/-- The credit a device starts with. -/
theorem credits (c : Dev nD) : (Pipeline.launchCred owedAll c : sProp 𝕄)
    ⊢ iprop(cred (tallyAt (cell c 0) () 1) ∗ cred (tallyAt (cell c 2) () N0) ∗ cred (tallyAt (cell c 4) () N1)) := by
  unfold Pipeline.launchCred
  rw [bigSep_univ_at _ (role 0), launch_cell c 0 (.inl rfl)]
  refine sep_mono_right ?_
  rw [bigSep_erase (i := role 2) (Finset.mem_erase.mpr ⟨by decide, Finset.mem_univ _⟩), launch_cell c 2 (.inr (.inl rfl))]
  refine sep_mono_right ?_
  rw [show (tallyAt (cell c 4) () N1 : CellTallies nD τ sig Unit) = _ from (launch_cell c 4 (.inr (.inr rfl))).symm]
  exact bigSep_elim (Finset.mem_erase.mpr ⟨by decide, Finset.mem_erase.mpr ⟨by decide, Finset.mem_univ _⟩⟩)

/-! ## The side conditions and the run -/

theorem start_of (c : Dev nD) :
    iprop(Pipeline.unscopedRestP Pipeline.Prefetch.none cfg0.spec c (fun b => m ((c : Thread nD τ).loc b)) ∗ levAts waitIx level
        ∗ Pipeline.launchCred owedAll c ∗ prngReg c (ρ c) ∗ ∃ K, ghost m K c)
      ⊢ |={Set.univ}=> iprop(start m c ∗ emp) := by
  iintro ⟨-, Hl, Hc, -, HG⟩
  ihave Hc := (credits (F := F) c) $$ Hc
  imodintro
  unfold start
  isplitl
  · isplitl [HG]; · iexact HG
    isplitl [Hc] <;> iassumption
  · iempintro

theorem buffers_eq (c : Dev nD) : (Pipeline.scopedRest cfg0.spec c : sProp 𝕄) = buffers c := by
  refine (scopedRest0_eq c).trans ?_
  unfold buffers
  simp only [held_oSnd, held_oRcv, held_sSnd, held_sRcv]

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ buffers c) from rfl, buffers_eq]
  iintro ⟨Hs, -, Hb⟩
  isplitl [Hs] <;> iassumption

theorem leave (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = iprop(buffers c ∗ quiet c) from rfl, buffers_eq, ownSems_eq, barSem_eq]
  unfold quiet
  iintro ⟨Hb, Z0, Z1, Z2, Z3, Z4⟩
  isplitl [Z0]; · iexact Z0
  isplitl [Z1 Z2 Z3 Z4]
  · isplitl [Z1]; · iexact Z1
    isplitl [Z2]; · iexact Z2
    isplitl [Z3] <;> iassumption
  iexact Hb

theorem staging_waits (c : Dev nD) : (levAts waitIx level : sProp 𝕄) ⊢ Pipeline.cellsWaits cfgs (dats m) () 0 c :=
  Pipeline.cellsWaits_intro cfgs (dats m) () 0 c fun w s t =>
    mayWait_staging c _ (by fin_cases w <;> fin_cases s <;> decide) _ (by
      rcases t with ⟨_ | _, ht⟩
      · exact Or.inl rfl
      · exact Or.inr rfl)

set_option maxRecDepth 8000 in
/-- From any memory with every counter at zero, every run of the four devices ends, with every array of the call as the
    pipeline's data says and every counter at zero. -/
theorem run_arrays : θ_run defs (onTc (τ := τ) (main (F := F))) ⟨m, fun _ => 0, ρ⟩
    (fun r => (∀ c : Dev nD, ∀ w : Fin cfg0.W, r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) () cellOf_inj (0 : Fin 1)
    winFacts0.to₀ ownSem_ok (Pipeline.PreFacts.none _) EP defs₀ noVar m ρ main
    (hmain := fun _ => rfl)
    (hbody := body_ok m) (hne := fun w => block_pos0 w) (harr := arr_whole0) (hstage := stage_whole0) (hshare := share_full m)
    (hdistinct := winFacts0.arr_inj)
    (O₀ := owedAll) (howed₀ := fun _ => rfl) (howedN := fun _ => rfl)
    (L := waitIx) (lv := level) (hL := waitIx_off) (hwaits := staging_waits m)
    (G := dealt m) (G' := fun c => iprop(∃ K, ghost m K c)) (u₀ := launchElt)
    (hu₀ := by
      unfold launchElt
      iintro Hu
      ihave H := (ownU_pair _ _) $$ Hu
      icases H with ⟨HP, HX⟩
      imod (deal m) $$ HX with HG
      imodintro
      isplitl [HP] <;> iassumption)
    (hglob := set_up m)
    (hA := fun _ _ => rfl) (hpf := fun _ k => k.elim0)
    (X := start m) (Y := fun c => unscopedSems0 c) (Z := fun _ => iprop(emp))
    (hX := start_of m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- The staged queries are the whole argument array, -/
theorem inQ_eq (c : Dev nD) : inQ m c = m ((c : Thread nD τ).loc main_arg0) := by
  unfold inQ; exact Memref.readAt_unit_zero (Elt F) main_arg0 (funext fun a => by fin_cases a <;> rfl) _ _
/-- the staged keys the device's half of the pool, -/
theorem inK_eq (c : Dev nD) : inK m c = m ((c : Thread nD τ).loc main_arg1) := by
  unfold inK; exact Memref.readAt_unit_zero (Elt F) main_arg1 (funext fun a => by fin_cases a <;> rfl) _ _
theorem inV_eq (c : Dev nD) : inV m c = m ((c : Thread nD τ).loc main_arg2) := by
  unfold inV; exact Memref.readAt_unit_zero (Elt F) main_arg2 (funext fun a => by fin_cases a <;> rfl) _ _
theorem inB_eq (c : Dev nD) : inB m c = m ((c : Thread nD τ).loc main_arg3) := by
  unfold inB; exact Memref.readAt_unit_zero (Elt F) main_arg3 (funext fun a => by fin_cases a <;> rfl) _ _
theorem inN_eq (c : Dev nD) : inN m c = m ((c : Thread nD τ).loc main_arg4) := by
  unfold inN; exact Memref.readAt_unit_zero (Elt F) main_arg4 (funext fun a => by fin_cases a <;> rfl) _ _

/-- The rectangle from the origin of a buffer's own size covers the buffer. -/
theorem whole_slice (b : Ref sig .tc) {off : Fin b.ty.shape.rank → Nat} (h : off = fun _ => 0)
    (inb : ∀ a, off a + b.ty.shape.size a ≤ b.ty.shape.size a) :
    ((View.whole b).slice (Rect.unit off b.ty.shape.size inb)).set = Finset.univ := by
  subst h
  rw [View.set_slice]
  exact (congrArg (fun z => Finset.map _ z) (Rect.set_whole _)).trans (View.set_whole b)

/-- The result array ends holding the merged state. -/
theorem final_result (c : Dev nD) : (dats m 0 c).arrAt (5 : Fin 6) cfg0.N = result m c := by
  have hr : ∀ f : (main_v1 : Ref sig .tc).ty.Contents (Elt F), (win0_5.blk (0 : Fin 1)).view.read (Elt F) f = f := fun f =>
    Memref.readAt_unit_zero (Elt F) main_v1 (funext fun a => by fin_cases a <;> rfl) _ f
  refine (dats m 0 c).arrAt_eq_of_cover (5 : Fin 6) (result m c) (fun t _ => ?_) (fun i => ⟨only, flush0_5 only, ?_⟩)
  · rw [only_eq t]; exact (hr (result m c)).symm
  · have hs : (win0_5.blk (0 : Fin 1)).view.set = Finset.univ := whole_slice main_v1 (funext fun a => by fin_cases a <;> rfl) _
    show i ∈ (win0_5.blk (0 : Fin 1)).view.set
    rw [hs]; exact Finset.mem_univ _

/-- Every run of the four devices ends with each device's result at the merged state, its arguments as they were, and
    every semaphore counter at zero. -/
theorem run_main : θ_run defs (onTc (τ := τ) (main (F := F))) ⟨m, fun _ => 0, ρ⟩
    (fun r => (∀ c : Dev nD, r.2.mem ((c : Thread nD τ).loc main_v1) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0) :=
  (θ_run defs _ _).mono (fun r h => ⟨fun c =>
    ⟨(h.1 c (5 : Fin 6)).trans (final_result m c),
      (h.1 c (0 : Fin 6)).trans ((dats m 0 c).arrAt_in (0 : Fin 6) rfl _),
      (h.1 c (1 : Fin 6)).trans ((dats m 0 c).arrAt_in (1 : Fin 6) rfl _),
      (h.1 c (2 : Fin 6)).trans ((dats m 0 c).arrAt_in (2 : Fin 6) rfl _),
      (h.1 c (3 : Fin 6)).trans ((dats m 0 c).arrAt_in (3 : Fin 6) rfl _),
      (h.1 c (4 : Fin 6)).trans ((dats m 0 c).arrAt_in (4 : Fin 6) rfl _)⟩, h.2⟩) (run_arrays m ρ)

end Cert.Swap

end
-- ==== Proof.Frames.lean ====
/-
# The frames

The kernel as printed and the kernel read over the extended reals are one text, so one run serves both.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run
public import proofs.«01_k».proof.Proof.Gen.Pre_served_KernelIdeal
public import proofs.«01_k».proof.Proof.Gen.Pre_served_ReferenceIdeal
public import Idealize.ShloMosaic.Lib.Quiescent

@[expose] public section

noncomputable section

namespace Cert.Swap

open Idealize.ShloMosaic Idealize.SL.Sem

/-- The kernel over the extended reals ends with its arguments unchanged and every counter at zero. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

/-- So it does from memories the precondition holds of. -/
theorem frame_ideal_served : Cert.quiescent_KernelIdeal_pre_served_KernelIdeal (hKernelIdeal := Cert.KernelIdeal.Gen.facts)
    (hPre_served_KernelIdeal := Cert.Pre_served_KernelIdeal.Gen.facts) := fun m ρ _ => frame_ideal m ρ trivial

set_option maxRecDepth 8000 in
/-- The two printed kernels have one table of kernel bodies. -/
theorem bodies_agree : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | ⟨0, _⟩, (_, _) => rfl

set_option maxRecDepth 8000 in
/-- So they have one table of labels. -/
theorem tables_agree : @Cert.Kernel.defs Bits _ Cert.Kernel.Gen.facts = @Cert.KernelIdeal.defs Bits _ Cert.KernelIdeal.Gen.facts :=
  congrArg (Pipeline.defs Cert.KernelIdeal.pcfgs) bodies_agree

set_option maxRecDepth 8000 in
/-- The kernel as printed ends so too: it is the same program. -/
theorem frame_bits : Cert.quiescent_Kernel (hKernel := Cert.Kernel.Gen.facts) := fun m ρ _ => by
  rw [tables_agree]
  exact (θ_run Cert.KernelIdeal.defs _ _).mono (fun _ h => ⟨fun c => (h.1 c).2, h.2⟩) (run_main (F := Bits) m ρ)

/-- The reference ends with its arguments unchanged; it has no counter. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does from memories the precondition holds of. -/
theorem frame_reference_served : Cert.quiescent_ReferenceIdeal_pre_served_ReferenceIdeal (hReferenceIdeal := Cert.ReferenceIdeal.Gen.facts)
    (hPre_served_ReferenceIdeal := Cert.Pre_served_ReferenceIdeal.Gen.facts) := fun m ρ _ => frame_reference m ρ trivial

end Cert.Swap

end
-- ==== Proof.Softmax.lean ====
/-
# Softmax over the extended reals

Scores are real numbers, values may be any extended real. A softmax row is a weighted sum of the values divided by the sum
of the weights, each weight the exponential of a score less some reference number. The reference number cancels, so a row
computed in one piece and a row merged from two pieces are both the sum of `exp(score) · value` times the reciprocal of the
sum of `exp(score)`. A sum that counts how often a page is named is the sum over the names.
-/
module

public import Idealize.ShloMosaic.PureOps.Ideal
public import Mathlib.Data.EReal.Inv
public import Mathlib.Data.EReal.Operations
public import Mathlib.Algebra.BigOperators.Fin
public import Mathlib.Algebra.Order.BigOperators.Group.Finset

@[expose] public section

noncomputable section

namespace Cert.Swap

open Idealize.ShloMosaic

/-- The cast of a finite sum of reals is the sum of the casts. -/
theorem cast_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over a finite sum of extended reals. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A finite sum of nonnegative reals times one extended real is the sum of the products. -/
theorem real_sum_mul {ι : Type} (s : Finset ι) (f : ι → ℝ) (hf : ∀ i, 0 ≤ f i) (x : EReal) :
    ((∑ i ∈ s, f i : ℝ) : EReal) * x = ∑ i ∈ s, (f i : EReal) * x := by
  classical
  induction s using Finset.induction_on with
  | empty => simp
  | insert a s ha ih =>
    rw [Finset.sum_insert ha, Finset.sum_insert ha, EReal.coe_add,
      EReal.right_distrib_of_nonneg (by exact_mod_cast hf a) (by exact_mod_cast Finset.sum_nonneg fun i _ => hf i), ih]

/-- A running maximum from minus infinity is an upper bound of its terms. -/
theorem le_running_max {ι : Type} (s : Finset ι) (f : ι → EReal) {i : ι} (hi : i ∈ s) : f i ≤ s.fold max ⊥ f := by
  classical
  induction s using Finset.induction_on with
  | empty => simp at hi
  | insert a s ha ih =>
    rw [Finset.fold_insert ha]
    rcases Finset.mem_insert.mp hi with rfl | h
    · exact le_max_left _ _
    · exact (ih h).trans (le_max_right _ _)

/-- A running maximum from minus infinity is minus infinity or one of its terms. -/
theorem running_max_mem {ι : Type} (s : Finset ι) (f : ι → EReal) : s.fold max ⊥ f = ⊥ ∨ ∃ i, s.fold max ⊥ f = f i := by
  classical
  induction s using Finset.induction_on with
  | empty => simp
  | insert a s ha ih =>
    rw [Finset.fold_insert ha]
    rcases max_choice (f a) (s.fold max ⊥ f) with h | h
    · exact .inr ⟨a, h⟩
    · rw [h]; exact ih

/-- The running maximum of terms none of which is plus infinity, and one of which is real, is real. -/
theorem running_max_real {ι : Type} [Fintype ι] (f : ι → EReal) (ht : ∀ i, f i ≠ ⊤) {i : ι} (hb : f i ≠ ⊥) :
    ∃ r : ℝ, Finset.univ.fold max ⊥ f = (r : EReal) := by
  have hne : Finset.univ.fold max ⊥ f ≠ ⊥ := fun h => hb (le_bot_iff.mp (h ▸ le_running_max Finset.univ f (Finset.mem_univ i)))
  rcases running_max_mem Finset.univ f with h | ⟨k, h⟩
  · exact absurd h hne
  · exact ⟨(Finset.univ.fold max ⊥ f).toReal, (EReal.coe_toReal (h ▸ ht k) hne).symm⟩

/-- A softmax row with some entries masked to minus infinity: the values weighted by the quotients are the values weighted
    by the exponentials of the live scores, times the reciprocal of the sum of those. -/
theorem masked_row {ι : Type} [Fintype ι] (live : ι → Prop) [DecidablePred live] (s : ι → ℝ) (v : ι → EReal)
    {i₀ : ι} (h₀ : live i₀) :
    ∑ i, v i * Ideal.div (Ideal.exp ((if live i then (s i : EReal) else ⊥)
          - Finset.univ.fold max ⊥ fun i => if live i then (s i : EReal) else ⊥))
        (∑ i, Ideal.exp ((if live i then (s i : EReal) else ⊥)
          - Finset.univ.fold max ⊥ fun i => if live i then (s i : EReal) else ⊥))
      = (∑ i, ((if live i then Real.exp (s i) else 0 : ℝ) : EReal) * v i)
          * ((1 / ∑ i, (if live i then Real.exp (s i) else 0) : ℝ) : EReal) := by
  obtain ⟨M, hM⟩ := running_max_real (fun i => if live i then (s i : EReal) else ⊥)
    (fun i => by split <;> simp) (i := i₀) (by simp [h₀])
  rw [hM]
  have he : ∀ i, Ideal.exp ((if live i then (s i : EReal) else ⊥) - (M : EReal))
      = (((if live i then Real.exp (s i) else 0) * Real.exp (-M) : ℝ) : EReal) := fun i => by
    by_cases h : live i
    · rw [if_pos h, if_pos h, ← EReal.coe_sub, Ideal.exp_coe, ← Real.exp_add, sub_eq_add_neg]
    · rw [if_neg h, if_neg h, EReal.bot_sub, Ideal.exp_bot, zero_mul, EReal.coe_zero]
  have hnn : ∀ i, 0 ≤ (if live i then Real.exp (s i) else 0) := fun i => by split <;> positivity
  have hpos : 0 < ∑ i, (if live i then Real.exp (s i) else 0) :=
    Finset.sum_pos' (fun i _ => hnn i) ⟨i₀, Finset.mem_univ _, by rw [if_pos h₀]; positivity⟩
  have hsum : ∑ i, Ideal.exp ((if live i then (s i : EReal) else ⊥) - (M : EReal))
      = (((∑ i, (if live i then Real.exp (s i) else 0)) * Real.exp (-M) : ℝ) : EReal) := by
    rw [Finset.sum_mul, cast_sum]; exact Finset.sum_congr rfl fun i _ => he i
  rw [hsum, sum_mul_real _ _ _ (by positivity)]
  refine Finset.sum_congr rfl fun i _ => ?_
  rw [he i, Ideal.div_coe (by positivity), ← EReal.coe_mul, mul_comm (v i),
    mul_right_comm ((if live i then Real.exp (s i) else 0 : ℝ) : EReal) (v i), ← EReal.coe_mul]
  congr 2
  have := Real.exp_pos (-M)
  field_simp

/-- Two partial rows, each taken less its own maximum, merged at the larger maximum and divided: the maxima cancel. -/
theorem merged_row (a b : EReal) (la lb mx my : ℝ) (hL : 0 < la + lb) :
    Ideal.div (a * ((Real.exp (-mx) : ℝ) : EReal) * Ideal.exp ((mx : EReal) - max (mx : EReal) (my : EReal))
        + b * ((Real.exp (-my) : ℝ) : EReal) * Ideal.exp ((my : EReal) - max (mx : EReal) (my : EReal)))
      (((la * Real.exp (-mx) : ℝ) : EReal) * Ideal.exp ((mx : EReal) - max (mx : EReal) (my : EReal))
        + ((lb * Real.exp (-my) : ℝ) : EReal) * Ideal.exp ((my : EReal) - max (mx : EReal) (my : EReal)))
      = (a + b) * ((1 / (la + lb) : ℝ) : EReal) := by
  obtain ⟨M, hM⟩ : ∃ M : ℝ, max (mx : EReal) (my : EReal) = (M : EReal) := by
    rcases max_choice (mx : EReal) (my : EReal) with h | h <;> exact ⟨_, h⟩
  have e : ∀ y : ℝ, Real.exp (-y) * Real.exp (y - M) = Real.exp (-M) := fun y => by rw [← Real.exp_add]; congr 1; ring
  rw [hM]
  simp only [← EReal.coe_sub, Ideal.exp_coe, mul_assoc a, mul_assoc b, ← EReal.coe_mul, mul_assoc la, mul_assoc lb, e]
  rw [← EReal.coe_add, ← add_mul la, ← EReal.right_distrib_of_nonneg_of_ne_top
    (by exact_mod_cast (Real.exp_pos (-M)).le) (EReal.coe_ne_top _), Ideal.div_coe (by positivity), mul_assoc, ← EReal.coe_mul]
  congr 2
  have := Real.exp_pos (-M)
  field_simp

/-- How many live entries name page `P`. -/
def named {ι π : Type} [Fintype ι] [DecidableEq π] (live : ι → Prop) [DecidablePred live] (page : ι → π) (P : π) : ℝ :=
  ∑ j, if live j ∧ page j = P then 1 else 0

/-- A page is named a nonnegative number of times. -/
theorem named_nonneg {ι π : Type} [Fintype ι] [DecidableEq π] (live : ι → Prop) [DecidablePred live] (page : ι → π) (P : π) :
    0 ≤ named live page P := Finset.sum_nonneg fun j _ => by split <;> norm_num

/-- Summing over the pages, each counted as often as it is named, is summing over the live entries. -/
theorem sum_named {ι π : Type} [Fintype ι] [Fintype π] [DecidableEq π] (live : ι → Prop) [DecidablePred live]
    (page : ι → π) (f : π → ℝ) :
    ∑ P, named live page P * f P = ∑ j, if live j then f (page j) else 0 := by
  simp only [named, Finset.sum_mul]
  rw [Finset.sum_comm]
  refine Finset.sum_congr rfl fun j _ => ?_
  by_cases h : live j <;> simp [h]

/-- The same for nonnegative weights on extended real values. -/
theorem sum_named_mul {ι π : Type} [Fintype ι] [Fintype π] [DecidableEq π] (live : ι → Prop) [DecidablePred live]
    (page : ι → π) (f : π → ℝ) (hf : ∀ P, 0 ≤ f P) (v : π → EReal) :
    ∑ P, ((named live page P * f P : ℝ) : EReal) * v P
      = ∑ j, ((if live j then f (page j) else 0 : ℝ) : EReal) * v (page j) := by
  have h1 : ∀ P, ((named live page P * f P : ℝ) : EReal) * v P
      = ∑ j, if page j = P then ((if live j then f (page j) else 0 : ℝ) : EReal) * v (page j) else 0 := fun P => by
    rw [named, Finset.sum_mul, real_sum_mul _ _ fun j => mul_nonneg (by split <;> norm_num) (hf P)]
    refine Finset.sum_congr rfl fun j _ => ?_
    by_cases hp : page j = P
    · subst hp; by_cases h : live j <;> simp [h]
    · simp [hp]
  rw [Finset.sum_congr rfl fun P _ => h1 P, Finset.sum_comm]
  exact Finset.sum_congr rfl fun j _ => by simp

end Cert.Swap

end
-- ==== Proof.Scores.lean ====
/-
# Words and scores

The formula both programs compute, stated on plain functions of the row, head, page, position and lane, and the words of
the block table read as truth values and page numbers.
-/
module

public import proofs.«01_k».proof.Proof.Softmax
public import Idealize.ShloMosaic.Lib.Pointwise
public import Idealize.ShloMosaic.Lib.Affine

@[expose] public section

noncomputable section

namespace Cert.Swap

open Idealize.ShloMosaic

/-! ## The formula -/

/-- The score of row `b`'s query against position `t` of page `P`, in head `h`: the scaled query times the key. -/
def dotScore (q : Fin 8 → Fin 8 → Fin 64 → ℝ) (k : Fin 128 → Fin 16 → Fin 8 → Fin 64 → ℝ) (b h : Fin 8) (P : Fin 128) (t : Fin 16) : ℝ :=
  ∑ x, q b h x * (1 / 8) * k P t h x

/-- The attention output of row `b`, head `h`, lane `d`: the values of the live entries' pages weighted by the exponentials
    of their scores, times the reciprocal of the sum of the weights. -/
def attended (q : Fin 8 → Fin 8 → Fin 64 → ℝ) (k : Fin 128 → Fin 16 → Fin 8 → Fin 64 → ℝ)
    (v : Fin 128 → Fin 16 → Fin 8 → Fin 64 → EReal) (live : Fin 8 → Fin 64 → Prop) [∀ b, DecidablePred (live b)]
    (page : Fin 8 → Fin 64 → Fin 128) (b h : Fin 8) (d : Fin 64) : EReal :=
  (∑ j, ∑ t, ((if live b j then Real.exp (dotScore q k b h (page b j) t) else 0 : ℝ) : EReal) * v (page b j) t h d)
    * ((1 / ∑ j, ∑ t, (if live b j then Real.exp (dotScore q k b h (page b j) t) else 0) : ℝ) : EReal)

/-! ## Words -/

/-- Table entry `j` of a row is live when it comes before the row's number of pages. -/
def Live (n : BitVec 32) (j : Fin 64) : Prop := (BitVec.ofNat 32 j.val).slt n = true

instance (n : BitVec 32) : DecidablePred (Live n) := fun _ => inferInstanceAs (Decidable (_ = true))

/-- The page an entry names, clamped into the pool. -/
def pageOf (w : BitVec 32) : Fin 128 := ⟨min w.toInt.toNat 127, by omega⟩

/-- The float of a widened truth value is one or zero. -/
theorem float_of_truth (p : Bool) :
    (FloatOps.sitofp (F := Ideal) .f32 ((BitVec.ofBool p).setWidth 32) : EReal) = ((if p = true then 1 else 0 : ℝ) : EReal) := by
  cases p
  · show (((0 : ℤ) : ℝ) : EReal) = _; simp
  · show (((1 : ℤ) : ℝ) : EReal) = _; simp

/-- The pattern of one eighth. -/
theorem eighth : Ideal.ofBits .f32 0x3E000000#32 = ((1 / 8 : ℝ) : EReal) := by
  simp [Ideal.ofBits, Ideal.ieee, -EReal.coe_mul]; norm_num

/-- The pattern of minus infinity. -/
theorem minus_infinity : Ideal.ofBits .f32 0xFF800000#32 = ⊥ := by simp [Ideal.ofBits, Ideal.ieee]

/-- The pattern of plus infinity. -/
theorem plus_infinity : Ideal.ofBits .f32 0x7F800000#32 = ⊤ := by simp [Ideal.ofBits, Ideal.ieee]

/-- An entry in the pool names page `P` exactly when its word is `P`. -/
theorem word_eq_page (w : BitVec 32) (h0 : 0 ≤ w.toInt) (h1 : w.toInt < 128) (P : Fin 128) :
    w = BitVec.ofNat 32 P.val ↔ pageOf w = P := by
  have hw : w.toInt = w.toNat := by rw [BitVec.toInt_eq_toNat_cond] at *; split at * <;> omega
  have hP := P.isLt
  have hc : (pageOf w).val = w.toNat := by show min w.toInt.toNat 127 = _; omega
  rw [Fin.ext_iff, hc, ← BitVec.toNat_inj, BitVec.toNat_ofNat, Nat.mod_eq_of_lt (by omega)]

/-- The low three bits of a row number below 8192, taken as the kernel takes them, are its remainder by eight. -/
theorem head_of_row (n : Fin 8192) :
    Scalar.select
      (IntOp.andi
        (IntOp.xori
          (IntOp.cmpi .slt (IntOp.remsi .vector (BitVec.ofNat 32 n.val) (Scalar.select (Scalar.cmpi .eq 8#32 0#32) 1#32 8#32)) 0#32)
          (Scalar.cmpi .slt (Scalar.select (Scalar.cmpi .eq 8#32 0#32) 1#32 8#32) 0#32))
        (IntOp.cmpi .ne (IntOp.remsi .vector (BitVec.ofNat 32 n.val) (Scalar.select (Scalar.cmpi .eq 8#32 0#32) 1#32 8#32)) 0#32))
      (IntOp.addi (IntOp.remsi .vector (BitVec.ofNat 32 n.val) (Scalar.select (Scalar.cmpi .eq 8#32 0#32) 1#32 8#32))
        (Scalar.select (Scalar.cmpi .eq 8#32 0#32) 1#32 8#32))
      (IntOp.remsi .vector (BitVec.ofNat 32 n.val) (Scalar.select (Scalar.cmpi .eq 8#32 0#32) 1#32 8#32))
      = BitVec.ofNat 32 (n.val % 8) := by
  have h8 : Scalar.select (Scalar.cmpi .eq 8#32 0#32) 1#32 8#32 = 8#32 := by decide
  have hn := n.isLt
  have hr : IntOp.remsi .vector (BitVec.ofNat 32 n.val) 8#32 = BitVec.ofNat 32 (n.val % 8) := by
    rw [← BitVec.toNat_inj, IntOp.toNat_remsi .vector (by rw [BitVec.toNat_ofNat]; omega) 8 (by decide) (by decide),
      BitVec.toNat_ofNat, BitVec.toNat_ofNat]
    omega
  rw [h8, hr]
  have : ∀ r : Fin 8, Scalar.select
      (IntOp.andi (IntOp.xori (IntOp.cmpi .slt (BitVec.ofNat 32 r.val) 0#32) (Scalar.cmpi .slt 8#32 0#32))
        (IntOp.cmpi .ne (BitVec.ofNat 32 r.val) 0#32))
      (IntOp.addi (BitVec.ofNat 32 r.val) 8#32) (BitVec.ofNat 32 r.val) = BitVec.ofNat 32 r.val := by decide
  exact this ⟨n.val % 8, Nat.mod_lt _ (by decide)⟩

end Cert.Swap

end
-- ==== Proof.KernelValue.lean ====
/-
# The kernel's result as a formula

Each device's partial state over its half of the pool is read at an index: the row sum is the real number
`L · exp(-M)` and the output part `O · exp(-M)`, with `M` the row's maximum, `L` the sum over the half's pages of how often a
page is named times its positions' exponentials, and `O` the same sum weighted by the values. Merging two such states drops
the maxima, and the two halves' sums together are sums over the whole pool, that is over the live table entries.
-/
module

public import proofs.«01_k».proof.Proof.Exchange
public import proofs.«01_k».proof.Proof.Scores

@[expose] public section

noncomputable section

namespace Cert.Swap

open Cert.KernelIdeal Cert.KernelIdeal.Gen
open Idealize.ShloMosaic

/-- The page of the pool that a half's page `p` is. -/
def poolPage (x : Fin 2) (p : Fin 64) : Fin 128 := ⟨x.val * 64 + p.val, by have := x.isLt; have := p.isLt; omega⟩

/-- The half of the pool a device holds. -/
def halfOf (c : Dev nD) : Fin 2 := ⟨c.val / 2, by have : c.val < 4 := c.isLt; omega⟩

/-- A device's peer holds the other half. -/
theorem halfOf_peer (c : Dev nD) : (halfOf c = 0 ∧ halfOf (peer c) = 1) ∨ (halfOf c = 1 ∧ halfOf (peer c) = 0) := by
  revert c; decide

/-- The word of the device's first page. -/
theorem first_page (c : Dev nD) :
    Scalar.muli (Scalar.remsi (Scalar.divsi c.word 2#32) 2#32) 64#32 = BitVec.ofNat 32 ((halfOf c).val * 64) := by
  revert c; decide

/-- A sum over the 8192 key rows of a half is a sum over its pages, positions and heads. -/
theorem sum_rows {M : Type} [AddCommMonoid M] (f : Fin 8192 → M) :
    ∑ n, f n = ∑ p : Fin 64, ∑ t : Fin 16, ∑ g : Fin 8, f ⟨p.val * 128 + (t.val * 8 + g.val), by omega⟩ := by
  rw [Fin.sum_univ_tiles 64 128 (by decide)]
  refine Finset.sum_congr rfl fun p _ => ?_
  rw [Fin.sum_univ_tiles 16 8 (by decide)]

/-- Of a sum over the 8192 key rows, each term zero but in head `h`, the rows of that head remain. -/
theorem sum_rows_head {M : Type} [AddCommMonoid M] (h : Fin 8) (f : Fin 8192 → M) (hf : ∀ n : Fin 8192, n.val % 8 ≠ h.val → f n = 0) :
    ∑ n, f n = ∑ p : Fin 64, ∑ t : Fin 16, f ⟨p.val * 128 + (t.val * 8 + h.val), by omega⟩ := by
  rw [sum_rows]
  refine Finset.sum_congr rfl fun p _ => Finset.sum_congr rfl fun t _ => Finset.sum_eq_single h (fun g _ hg => hf _ ?_) (by simp)
  have : g.val ≠ h.val := fun e => hg (Fin.ext e)
  have := g.isLt
  show (p.val * 128 + (t.val * 8 + g.val)) % 8 ≠ h.val
  omega

/-- The page a key row is of. -/
def rowPage (n : Fin 8192) : Fin 64 := ⟨n.val / 128, by omega⟩
/-- Its position within the page. -/
def rowPos (n : Fin 8192) : Fin 16 := ⟨n.val / 8 % 16, by omega⟩
/-- Its head. -/
def rowHead (n : Fin 8192) : Fin 8 := ⟨n.val % 8, by omega⟩

theorem rowPage_row (p : Fin 64) (t : Fin 16) (h : Fin 8) (hn) : rowPage ⟨p.val * 128 + (t.val * 8 + h.val), hn⟩ = p :=
  Fin.ext (by show (_ + _) / 128 = _; omega)
theorem rowPos_row (p : Fin 64) (t : Fin 16) (h : Fin 8) (hn) : rowPos ⟨p.val * 128 + (t.val * 8 + h.val), hn⟩ = t :=
  Fin.ext (by show (_ + _) / 8 % 16 = _; omega)
theorem rowHead_row (p : Fin 64) (t : Fin 16) (h : Fin 8) (hn) : rowHead ⟨p.val * 128 + (t.val * 8 + h.val), hn⟩ = h :=
  Fin.ext (by show (_ + _) % 8 = _; omega)

section Half

variable {Q : Vec Ideal S8x1x8x64 .f32} {K V : Vec Ideal S64x16x8x64 .f32} {B : Vec Ideal S8x64 .i32} {N : Vec Ideal S8x1 .i32}
  {q : Fin 8 → Fin 8 → Fin 64 → ℝ} {k : Fin 128 → Fin 16 → Fin 8 → Fin 64 → ℝ} {v : Fin 128 → Fin 16 → Fin 8 → Fin 64 → EReal}
  {c : Dev nD}

/-- The kernel's score of a query against a key row of any head. -/
def rowScore (q : Fin 8 → Fin 8 → Fin 64 → ℝ) (k : Fin 128 → Fin 16 → Fin 8 → Fin 64 → ℝ) (x : Fin 2) (b h : Fin 8) (n : Fin 8192) : ℝ :=
  ∑ l, q b h l * (1 / 8) * k (poolPage x (rowPage n)) (rowPos n) (rowHead n) l

/-- The scores of finite queries and keys are those reals. -/
theorem score_value (hQ : ∀ b h l, Q (ix4 b 0 h l) = (q b h l : EReal))
    (hK : ∀ p t h l, K (ix4 p t h l) = (k (poolPage (halfOf c) p) t h l : EReal)) (b h : Fin 8) (n : Fin 8192) :
    k0_pay4 (F := Ideal) Q K (ix3 b h n) = (rowScore q k (halfOf c) b h n : EReal) := by
  pointwise [k0_pay4]
  rw [rowScore, cast_sum]
  refine Finset.sum_congr rfl fun l _ => ?_
  rw [hQ, eighth, EReal.coe_mul, EReal.coe_mul]
  exact congrArg _ (hK (rowPage n) (rowPos n) (rowHead n) l)

/-- The row maximum of finite scores is real. -/
theorem max_value (hQ : ∀ b h l, Q (ix4 b 0 h l) = (q b h l : EReal))
    (hK : ∀ p t h l, K (ix4 p t h l) = (k (poolPage (halfOf c) p) t h l : EReal)) (b h : Fin 8) :
    ∃ M : ℝ, k0_pay5 (F := Ideal) Q K (ix2 b h) = (M : EReal) := by
  pointwise [k0_pay5]
  rw [minus_infinity]
  exact running_max_real _ (fun n => by rw [score_value hQ hK]; exact EReal.coe_ne_top _) (i := 0)
    (by rw [score_value hQ hK]; exact EReal.coe_ne_bot _)

/-- The count of a key row: how many live entries of row `b` name its page. -/
theorem count_value (hB : ∀ b j, Live (N (ix2 b 0)) j → 0 ≤ (B (ix2 b j)).toInt ∧ (B (ix2 b j)).toInt < 128)
    (b : Fin 8) (n : Fin 8192) :
    k0_pay2 (F := Ideal) c B N (ix2 b n)
      = ((named (Live (N (ix2 b 0))) (fun j => pageOf (B (ix2 b j))) (poolPage (halfOf c) (rowPage n)) : ℝ) : EReal) := by
  pointwise [k0_pay2]
  rw [named, cast_sum, first_page]
  refine Finset.sum_congr rfl fun j _ => ?_
  have ha : IntOp.addi (BitVec.ofNat 32 (n.val / 128)) (BitVec.ofNat 32 ((halfOf c).val * 64))
      = BitVec.ofNat 32 (poolPage (halfOf c) (rowPage n)).val := by
    show BitVec.ofNat 32 (n.val / 128) + BitVec.ofNat 32 ((halfOf c).val * 64) = BitVec.ofNat 32 ((halfOf c).val * 64 + n.val / 128)
    rw [BitVec.ofNat_add, BitVec.add_comm]
  rw [ha]
  simp only [IntOp.cmpi]
  rw [float_of_truth, float_of_truth, ← EReal.coe_mul]
  refine congrArg Real.toEReal ?_
  by_cases hl : Live (N (ix2 b 0)) j
  · obtain ⟨h0, h1⟩ := hB b j hl
    have hw := word_eq_page _ h0 h1 (poolPage (halfOf c) (rowPage n))
    have hl' : (BitVec.ofNat 32 j.val).slt (N (ix2 b 0)) = true := hl
    by_cases hp : pageOf (B (ix2 b j)) = poolPage (halfOf c) (rowPage n)
    · rw [if_pos (beq_iff_eq.mpr (hw.mpr hp)), if_pos hl', if_pos ⟨hl, hp⟩, mul_one]
    · have : B (ix2 b j) ≠ BitVec.ofNat 32 (poolPage (halfOf c) (rowPage n)).val := fun e => hp (hw.mp e)
      simp [hp, this]
  · have hl' : ¬ (BitVec.ofNat 32 j.val).slt (N (ix2 b 0)) = true := hl
    simp only [hl, hl', false_and, if_false, mul_zero]; simp

/-- The weight of a key row: its count in the query's own head, nothing in another. -/
theorem weight_value (x : FVec Ideal S8x8192 .f32) (b h : Fin 8) (n : Fin 8192) :
    k0_pay6 x (iota .tc S8x8192 32 [0] iota_S8x8192_d0_w32) (iota .tc S8x8192 32 [1] iota_S8x8192_d1_w32) (ix3 b h n)
      = x (ix2 b n) * ((if n.val % 8 = h.val then 1 else 0 : ℝ) : EReal) := by
  pointwise [k0_pay6]
  rw [head_of_row]
  simp only [IntOp.cmpi]
  rw [float_of_truth]
  refine congrArg (x (ix2 b n) * Real.toEReal ·) ?_
  have he : (BitVec.ofNat 32 h.val == BitVec.ofNat 32 (n.val % 8)) = true ↔ n.val % 8 = h.val := by
    rw [beq_iff_eq, ← BitVec.toNat_inj, BitVec.toNat_ofNat, BitVec.toNat_ofNat]
    have := h.isLt; omega
  simp only [he]

/-- What one weighted exponential of a row is, with the row's maximum `M`. -/
theorem term_value (hQ : ∀ b h l, Q (ix4 b 0 h l) = (q b h l : EReal))
    (hK : ∀ p t h l, K (ix4 p t h l) = (k (poolPage (halfOf c) p) t h l : EReal))
    (hB : ∀ b j, Live (N (ix2 b 0)) j → 0 ≤ (B (ix2 b j)).toInt ∧ (B (ix2 b j)).toInt < 128)
    (b h : Fin 8) {M : ℝ} (hM : k0_pay5 (F := Ideal) Q K (ix2 b h) = (M : EReal)) (n : Fin 8192) :
    k0_pay8 (F := Ideal) (k0_pay4 Q K)
        (k0_pay6 (k0_pay2 c B N) (iota .tc S8x8192 32 [0] iota_S8x8192_d0_w32) (iota .tc S8x8192 32 [1] iota_S8x8192_d1_w32))
        (k0_pay7 Q K) (ix3 b h n)
      = ((named (Live (N (ix2 b 0))) (fun j => pageOf (B (ix2 b j))) (poolPage (halfOf c) (rowPage n))
          * (if n.val % 8 = h.val then 1 else 0) * Real.exp (rowScore q k (halfOf c) b h n) * Real.exp (-M) : ℝ) : EReal) := by
  have hz : k0_pay7 (F := Ideal) Q K (ix3 b h 0) = (M : EReal) := by pointwise [k0_pay7]; exact hM
  have hx := score_value hQ hK b h n
  have hw := (weight_value (k0_pay2 (F := Ideal) c B N) b h n).trans (by rw [count_value hB b n])
  generalize k0_pay6 (k0_pay2 (F := Ideal) c B N) _ _ = y at hw ⊢
  generalize k0_pay7 (F := Ideal) Q K = z at hz ⊢
  generalize k0_pay4 (F := Ideal) Q K = x at hx ⊢
  pointwise [k0_pay8]
  rw [hz, hx, hw, ← EReal.coe_mul, ← EReal.coe_sub, Ideal.exp_coe, ← EReal.coe_mul, sub_eq_add_neg, Real.exp_add, mul_assoc _ (Real.exp _)]

/-- A half's sum of weights in row `b`, head `h`: each page's exponentials, as often as the page is named. -/
def partSum (q : Fin 8 → Fin 8 → Fin 64 → ℝ) (k : Fin 128 → Fin 16 → Fin 8 → Fin 64 → ℝ) (B : IVec S8x64 32) (N : IVec S8x1 32)
    (x : Fin 2) (b h : Fin 8) : ℝ :=
  ∑ p, ∑ t, named (Live (N (ix2 b 0))) (fun j => pageOf (B (ix2 b j))) (poolPage x p) * Real.exp (dotScore q k b h (poolPage x p) t)

/-- A half's weighted sum of values in row `b`, head `h`, lane `d`. -/
def partOut (q : Fin 8 → Fin 8 → Fin 64 → ℝ) (k : Fin 128 → Fin 16 → Fin 8 → Fin 64 → ℝ)
    (v : Fin 128 → Fin 16 → Fin 8 → Fin 64 → EReal) (B : IVec S8x64 32) (N : IVec S8x1 32)
    (x : Fin 2) (b h : Fin 8) (d : Fin 64) : EReal :=
  ∑ p, ∑ t, ((named (Live (N (ix2 b 0))) (fun j => pageOf (B (ix2 b j))) (poolPage x p)
    * Real.exp (dotScore q k b h (poolPage x p) t) : ℝ) : EReal) * v (poolPage x p) t h d

/-- In its own head a key row's score is the position's. -/
theorem rowScore_row (x : Fin 2) (b h : Fin 8) (p : Fin 64) (t : Fin 16) (hn) :
    rowScore q k x b h ⟨p.val * 128 + (t.val * 8 + h.val), hn⟩ = dotScore q k b h (poolPage x p) t := by
  rw [rowScore, dotScore, rowPage_row, rowPos_row, rowHead_row]

/-- The kernel's row sum is the half's sum of weights times `exp(-M)`. -/
theorem sum_value (hQ : ∀ b h l, Q (ix4 b 0 h l) = (q b h l : EReal))
    (hK : ∀ p t h l, K (ix4 p t h l) = (k (poolPage (halfOf c) p) t h l : EReal))
    (hB : ∀ b j, Live (N (ix2 b 0)) j → 0 ≤ (B (ix2 b j)).toInt ∧ (B (ix2 b j)).toInt < 128)
    (b h : Fin 8) {M : ℝ} (hM : k0_pay5 (F := Ideal) Q K (ix2 b h) = (M : EReal)) :
    k0_pay9 (F := Ideal) (k0_pay4 Q K)
        (k0_pay6 (k0_pay2 c B N) (iota .tc S8x8192 32 [0] iota_S8x8192_d0_w32) (iota .tc S8x8192 32 [1] iota_S8x8192_d1_w32))
        (k0_pay7 Q K) (ix2 b h)
      = ((partSum q k B N (halfOf c) b h * Real.exp (-M) : ℝ) : EReal) := by
  pointwise [k0_pay9]
  rw [Finset.sum_congr rfl fun n _ => term_value hQ hK hB b h hM n, sum_rows_head h _ fun n hn => by rw [if_neg hn]; simp]
  rw [partSum, Finset.sum_mul, cast_sum]
  refine Finset.sum_congr rfl fun p _ => ?_
  rw [Finset.sum_mul, cast_sum]
  refine Finset.sum_congr rfl fun t _ => ?_
  rw [rowScore_row, rowPage_row, if_pos (by have := h.isLt; show (p.val * 128 + (t.val * 8 + h.val)) % 8 = h.val; omega), mul_one]

/-- The kernel's output part is the half's weighted sum of values times `exp(-M)`. -/
theorem out_value (hQ : ∀ b h l, Q (ix4 b 0 h l) = (q b h l : EReal))
    (hK : ∀ p t h l, K (ix4 p t h l) = (k (poolPage (halfOf c) p) t h l : EReal))
    (hV : ∀ p t h l, V (ix4 p t h l) = v (poolPage (halfOf c) p) t h l)
    (hB : ∀ b j, Live (N (ix2 b 0)) j → 0 ≤ (B (ix2 b j)).toInt ∧ (B (ix2 b j)).toInt < 128)
    (b h : Fin 8) (d : Fin 64) {M : ℝ} (hM : k0_pay5 (F := Ideal) Q K (ix2 b h) = (M : EReal)) :
    k0_pay10 (F := Ideal) (k0_pay3 V) (k0_pay4 Q K)
        (k0_pay6 (k0_pay2 c B N) (iota .tc S8x8192 32 [0] iota_S8x8192_d0_w32) (iota .tc S8x8192 32 [1] iota_S8x8192_d1_w32))
        (k0_pay7 Q K) (ix3 b h d)
      = partOut q k v B N (halfOf c) b h d * ((Real.exp (-M) : ℝ) : EReal) := by
  pointwise [k0_pay10, k0_pay3]
  rw [Finset.sum_congr rfl fun n _ => congrArg (· * _) (term_value hQ hK hB b h hM n)]
  rw [sum_rows_head h _ fun n hn => by rw [if_neg hn]; simp]
  rw [partOut, sum_mul_real _ _ _ (Real.exp_pos _).le]
  refine Finset.sum_congr rfl fun p _ => ?_
  rw [sum_mul_real _ _ _ (Real.exp_pos _).le]
  refine Finset.sum_congr rfl fun t _ => ?_
  rw [rowScore_row, rowPage_row, if_pos (by have := h.isLt; show (p.val * 128 + (t.val * 8 + h.val)) % 8 = h.val; omega), mul_one,
    EReal.coe_mul _ (Real.exp (-M)), mul_right_comm]
  refine congrArg (_ * · * _) ?_
  rw [← hV]
  exact congrArg V (congr (congr (congr (congrArg ix4 (rowPage_row p t h _)) (rowPos_row p t h _)) (rowHead_row p t h _)) rfl)

/-- The two halves' sums of weights are the sum over the live entries. -/
theorem partSum_both (b h : Fin 8) (B : IVec S8x64 32) (N : IVec S8x1 32) :
    partSum q k B N 0 b h + partSum q k B N 1 b h
      = ∑ j, ∑ t, (if Live (N (ix2 b 0)) j then Real.exp (dotScore q k b h (pageOf (B (ix2 b j))) t) else 0) := by
  have h1 := Fin.sum_univ_tiles 2 64 (show 2 * 64 = 128 from rfl) fun P : Fin 128 =>
    ∑ t, named (Live (N (ix2 b 0))) (fun j => pageOf (B (ix2 b j))) P * Real.exp (dotScore q k b h P t)
  rw [Fin.sum_univ_two] at h1
  refine Eq.trans h1.symm ?_
  rw [Finset.sum_comm, Finset.sum_comm (γ := Fin 64)]
  exact Finset.sum_congr rfl fun t _ => sum_named _ _ fun P => Real.exp (dotScore q k b h P t)

/-- The two halves' weighted sums of values are the sum over the live entries. -/
theorem partOut_both (b h : Fin 8) (d : Fin 64) (B : IVec S8x64 32) (N : IVec S8x1 32) :
    partOut q k v B N 0 b h d + partOut q k v B N 1 b h d
      = ∑ j, ∑ t, ((if Live (N (ix2 b 0)) j then Real.exp (dotScore q k b h (pageOf (B (ix2 b j))) t) else 0 : ℝ) : EReal)
          * v (pageOf (B (ix2 b j))) t h d := by
  have h1 := Fin.sum_univ_tiles 2 64 (show 2 * 64 = 128 from rfl) fun P : Fin 128 =>
    ∑ t, ((named (Live (N (ix2 b 0))) (fun j => pageOf (B (ix2 b j))) P * Real.exp (dotScore q k b h P t) : ℝ) : EReal) * v P t h d
  rw [Fin.sum_univ_two] at h1
  refine Eq.trans h1.symm ?_
  rw [Finset.sum_comm, Finset.sum_comm (γ := Fin 64)]
  exact Finset.sum_congr rfl fun t _ => sum_named_mul _ _ (fun P => Real.exp (dotScore q k b h P t))
    (fun P => (Real.exp_pos _).le) fun P => v P t h d

end Half

/-- Where some entry is live, the sum of the weights is positive. -/
theorem weights_pos {q : Fin 8 → Fin 8 → Fin 64 → ℝ} {k : Fin 128 → Fin 16 → Fin 8 → Fin 64 → ℝ} (b h : Fin 8)
    (B : IVec S8x64 32) (N : IVec S8x1 32) (hN : Live (N (ix2 b 0)) 0) :
    0 < ∑ j, ∑ t, (if Live (N (ix2 b 0)) j then Real.exp (dotScore q k b h (pageOf (B (ix2 b j))) t) else 0) := by
  have hnn : ∀ j t, 0 ≤ (if Live (N (ix2 b 0)) j then Real.exp (dotScore q k b h (pageOf (B (ix2 b j))) t) else 0) := fun j t => by
    split <;> positivity
  refine Finset.sum_pos' (fun j _ => Finset.sum_nonneg fun t _ => hnn j t) ⟨0, Finset.mem_univ _, ?_⟩
  exact Finset.sum_pos' (fun t _ => hnn 0 t) ⟨0, Finset.mem_univ _, by rw [if_pos hN]; positivity⟩

section Result

variable (m : (ℓ : Loc nD τ sig) → Buf (Elt Ideal) ℓ)
  (q : Fin 8 → Fin 8 → Fin 64 → ℝ) (k : Fin 128 → Fin 16 → Fin 8 → Fin 64 → ℝ) (v : Fin 128 → Fin 16 → Fin 8 → Fin 64 → EReal)
  (B : IVec S8x64 32) (N : IVec S8x1 32)

/-- What device `c`'s operands hold: the finite queries, its half of the finite keys, its half of the values, a block table
    whose live entries are in the pool, and page counts of at least one. -/
structure Holds (c : Dev nD) : Prop where
  queries : ∀ b h l, inQ m c (ix4 b 0 h l) = (q b h l : EReal)
  keys : ∀ p t h l, inK m c (ix4 p t h l) = (k (poolPage (halfOf c) p) t h l : EReal)
  values : ∀ p t h l, inV m c (ix4 p t h l) = v (poolPage (halfOf c) p) t h l
  table : inB m c = B
  counts : inN m c = N
  inPool : ∀ b j, Live (N (ix2 b 0)) j → 0 ≤ (B (ix2 b j)).toInt ∧ (B (ix2 b j)).toInt < 128
  someLive : ∀ b, Live (N (ix2 b 0)) 0

variable {m q k v B N}

/-- The kernel's result on a device whose operands, and whose peer's, are as above is the attention output. -/
theorem result_value {c : Dev nD} (h : Holds m q k v B N c) (h' : Holds m q k v B N (peer c)) (b g : Fin 8) (d : Fin 64) :
    result m c (ix4 b 0 g d) = attended q k v (fun b => Live (N (ix2 b 0))) (fun b j => pageOf (B (ix2 b j))) b g d := by
  obtain ⟨M, hM⟩ := max_value h.queries h.keys b g
  obtain ⟨M', hM'⟩ := max_value h'.queries h'.keys b g
  have hB : ∀ b j, Live (inN m c (ix2 b 0)) j → 0 ≤ (inB m c (ix2 b j)).toInt ∧ (inB m c (ix2 b j)).toInt < 128 := by
    rw [h.table, h.counts]; exact h.inPool
  have hB' : ∀ b j, Live (inN m (peer c) (ix2 b 0)) j → 0 ≤ (inB m (peer c) (ix2 b j)).toInt ∧ (inB m (peer c) (ix2 b j)).toInt < 128 := by
    rw [h'.table, h'.counts]; exact h'.inPool
  have hm : rowMax m c (ix2 b g) = (M : EReal) := hM
  have hm' : rowMax m (peer c) (ix2 b g) = (M' : EReal) := hM'
  have hs : rowSum m c (ix2 b g) = ((partSum q k (inB m c) (inN m c) (halfOf c) b g * Real.exp (-M) : ℝ) : EReal) :=
    sum_value h.queries h.keys hB b g hM
  have hs' : rowSum m (peer c) (ix2 b g)
      = ((partSum q k (inB m (peer c)) (inN m (peer c)) (halfOf (peer c)) b g * Real.exp (-M') : ℝ) : EReal) :=
    sum_value h'.queries h'.keys hB' b g hM'
  have ho : outPart m c (ix3 b g d) = partOut q k v (inB m c) (inN m c) (halfOf c) b g d * ((Real.exp (-M) : ℝ) : EReal) :=
    out_value h.queries h.keys h.values hB b g d hM
  have ho' : outPart m (peer c) (ix3 b g d)
      = partOut q k v (inB m (peer c)) (inN m (peer c)) (halfOf (peer c)) b g d * ((Real.exp (-M') : ℝ) : EReal) :=
    out_value h'.queries h'.keys h'.values hB' b g d hM'
  rw [h.table, h.counts] at hs ho
  rw [h'.table, h'.counts] at hs' ho'
  have e1 : outSent m (peer c) = shapeCast S8x8x64 (outPart m (peer c)) shapeCasts_S8x8x64_S8x8x64 := rfl
  have e2 : sumSent m (peer c) = shapeCast S1x8x8 (rowSum m (peer c)) shapeCasts_S8x8_S1x8x8 := rfl
  have e3 : maxSent m (peer c) = shapeCast S1x8x8 (rowMax m (peer c)) shapeCasts_S8x8_S1x8x8 := rfl
  rw [result, e1, e2, e3]
  generalize outPart m (peer c) = o' at ho' ⊢
  generalize outPart m c = o at ho ⊢
  generalize rowSum m (peer c) = s' at hs' ⊢
  generalize rowSum m c = s at hs ⊢
  generalize rowMax m (peer c) = x' at hm' ⊢
  generalize rowMax m c = x at hm ⊢
  pointwise [k0_pay1, k0_pay17, k0_pay18, k0_pay19, k0_pay14, k0_pay15, k0_pay16]
  rw [hm, hm', hs, hs', ho, ho']
  have hpos := weights_pos (q := q) (k := k) b g B N (h.someLive b)
  rw [← partSum_both] at hpos
  rcases halfOf_peer c with ⟨e, e'⟩ | ⟨e, e'⟩ <;> rw [e, e']
  · rw [merged_row _ _ _ _ _ _ hpos, partSum_both, partOut_both, attended]
  · rw [merged_row _ _ _ _ _ _ (by rw [add_comm]; exact hpos), add_comm (partOut _ _ _ _ _ 1 _ _ _), add_comm (partSum _ _ _ _ 1 _ _),
      partSum_both, partOut_both, attended]

end Result

end Cert.Swap

end
-- ==== Proof.RefValue.lean ====
/-
# The reference's result as a formula

The reference gathers the pages the block table names, masks the scores of the entries that are not live to minus infinity,
takes the softmax over all gathered positions and weights the gathered values with it. Read at an index that is the same
formula as the kernel's.
-/
module

public import proofs.«01_k».proof.Proof.Gen.ReferenceIdeal
public import proofs.«01_k».proof.Proof.Gen.ReferenceIdeal.Run
public import proofs.«01_k».proof.Proof.Scores

@[expose] public section

noncomputable section

namespace Cert.Swap

open Cert.ReferenceIdeal Cert.ReferenceIdeal.Gen
open Idealize.ShloMosaic

/-- The pages gathered for a table: entry `j` of row `b` reads the page its word names, clamped into the pool. -/
theorem gathered_apply (x : FVec Ideal S128x16x8x64 .f32) (B : IVec S8x64 32) (b : Fin 8) (j : Fin 64) (t : Fin 16) (h : Fin 8) (l : Fin 64) :
    Host.gather gather_S128x16x8x64_S8x64x1_S8x64x16x8x64_234_0_n_n_0_2_116864 x
        (broadcastInDim S8x64x1 ![0, 1] bcast_S8x64_S8x64x1_0_1 B) (ix5 b j t h l)
      = x (ix4 (pageOf (B (ix2 b j))) t h l) := by
  have hb : broadcastInDim S8x64x1 ![0, 1] bcast_S8x64_S8x64x1_0_1 B (ix3 b j 0) = B (ix2 b j) := by
    pointwise []
  generalize broadcastInDim S8x64x1 ![0, 1] bcast_S8x64_S8x64x1_0_1 B = I at hb ⊢
  rw [← hb]
  unfold Host.gather
  refine congrArg x (funext fun a => Fin.ext ?_)
  set D := gather_S128x16x8x64_S8x64x1_S8x64x16x8x64_234_0_n_n_0_2_116864 with hD
  show D.start (ix5 b j t h l) I a + D.batchCoord (ix5 b j t h l) a + D.offCoord (ix5 b j t h l) a = _
  rw [GatherDims.batchCoord_eq_zero _ _ _ List.not_mem_nil, Nat.add_zero]
  have hsi : ∀ hlt, D.siIdx (ix5 b j t h l) ⟨List.idxOf (0 : Fin 4) D.startIndexMap, hlt⟩ = ix3 b j 0 := fun _ => by
    funext a; refine Fin.ext ?_
    match a with
    | ⟨0, _⟩ => rfl
    | ⟨1, _⟩ => rfl
    | ⟨2, _⟩ => rfl
  have hs : ∀ a : Fin 4, a ≠ 0 → D.start (ix5 b j t h l) I a = 0 := fun a ha => by
    unfold GatherDims.start
    exact dif_neg fun e => ha (List.mem_singleton.mp e)
  have h4 : a = 0 ∨ a = 1 ∨ a = 2 ∨ a = 3 := by revert a; decide
  rcases h4 with rfl | rfl | rfl | rfl
  · rw [GatherDims.offCoord_eq_zero _ _ _ (fun e => ((GatherDims.mem_sKept _ _).mp e).1 (List.mem_singleton.mpr rfl)), Nat.add_zero]
    unfold GatherDims.start
    rw [dif_pos (show (0 : Fin 4) ∈ D.startIndexMap from List.mem_singleton.mpr rfl)]
    rw [hsi]
    rfl
  · rw [hs 1 (by decide), Nat.zero_add]; rfl
  · rw [hs 2 (by decide), Nat.zero_add]; rfl
  · rw [hs 3 (by decide), Nat.zero_add]; rfl

/-- The score of every gathered position, masked where its entry is not live. -/
theorem masked_score {Q : FVec Ideal S8x1x8x64 .f32} {K : FVec Ideal S128x16x8x64 .f32} {B : IVec S8x64 32}
    {q : Fin 8 → Fin 8 → Fin 64 → ℝ} {k : Fin 128 → Fin 16 → Fin 8 → Fin 64 → ℝ}
    (hQ : ∀ b h l, Q (ix4 b 0 h l) = (q b h l : EReal)) (hK : ∀ P t h l, K (ix4 P t h l) = (k P t h l : EReal))
    (n : BitVec 32) (b h : Fin 8) (j : Fin 64) (t : Fin 16) :
    Scalar.select (IntOp.cmpi .slt (BitVec.ofNat 32 j.val) n)
        ((∑ l, Q (ix4 b 0 h l) * K (ix4 (pageOf (B (ix2 b j))) t h l)) * Ideal.ofBits .f32 0x3E000000#32) (Ideal.ofBits .f32 0xFF800000#32)
      = if Live n j then (dotScore q k b h (pageOf (B (ix2 b j))) t : EReal) else ⊥ := by
  have hs : (∑ l, Q (ix4 b 0 h l) * K (ix4 (pageOf (B (ix2 b j))) t h l)) * Ideal.ofBits .f32 0x3E000000#32
      = (dotScore q k b h (pageOf (B (ix2 b j))) t : EReal) := by
    rw [eighth, Finset.sum_congr rfl fun l _ => by rw [hQ, hK, ← EReal.coe_mul], ← cast_sum, ← EReal.coe_mul, dotScore, Finset.sum_mul]
    exact congrArg _ (Finset.sum_congr rfl fun l _ => by ring)
  rw [hs, minus_infinity, IntOp.cmpi]
  by_cases hl : Live n j
  · rw [if_pos hl]
    have : (BitVec.ofNat 32 j.val).slt n = true := hl
    simp only [this]; rfl
  · rw [if_neg hl]
    have : (BitVec.ofNat 32 j.val).slt n = false := Bool.eq_false_iff.mpr hl
    simp only [this]; rfl

/-- The entry a gathered position is of. -/
def entryOf (i : Fin 1024) : Fin 64 := ⟨i.val / 16, by omega⟩
/-- Its position within the entry's page. -/
def placeOf (i : Fin 1024) : Fin 16 := ⟨i.val % 16, by omega⟩

/-- A sum over the gathered positions is a sum over the entries and the positions of a page. -/
theorem sum_entries {M : Type} [AddCommMonoid M] (f : Fin 64 → Fin 16 → M) :
    ∑ i : Fin 1024, f (entryOf i) (placeOf i) = ∑ j, ∑ t, f j t := by
  rw [Fin.sum_univ_tiles 64 16 (by decide)]
  refine Finset.sum_congr rfl fun j _ => Finset.sum_congr rfl fun t _ => ?_
  rw [show entryOf ⟨j.val * 16 + t.val, _⟩ = j from Fin.ext (by show (_ + _) / 16 = _; omega),
    show placeOf ⟨j.val * 16 + t.val, _⟩ = t from Fin.ext (by show (_ + _) % 16 = _; omega)]

/-- Values weighted with the softmax of scores over the gathered positions are the attention output, when the scores are
    the masked ones and some entry is live. -/
theorem softmax_row {q : Fin 8 → Fin 8 → Fin 64 → ℝ} {k : Fin 128 → Fin 16 → Fin 8 → Fin 64 → ℝ}
    {v : Fin 128 → Fin 16 → Fin 8 → Fin 64 → EReal} {live : Fin 8 → Fin 64 → Prop} [∀ b, DecidablePred (live b)]
    {page : Fin 8 → Fin 64 → Fin 128} {b h : Fin 8} {d : Fin 64} (j₀ : Fin 64) (h₀ : live b j₀)
    (W S : Fin 1024 → EReal) (hW : ∀ i, W i = v (page b (entryOf i)) (placeOf i) h d)
    (hS : ∀ i, S i = if live b (entryOf i) then (dotScore q k b h (page b (entryOf i)) (placeOf i) : EReal) else ⊥) :
    ∑ x, W x * Ideal.div (Ideal.exp (S x - Finset.univ.fold max (Ideal.ofBits .f32 0xFF800000#32) fun i => S i))
        (∑ x, Ideal.exp (S x - Finset.univ.fold max (Ideal.ofBits .f32 0xFF800000#32) fun i => S i))
      = attended q k v live page b h d := by
  obtain rfl := funext hW
  obtain rfl := funext hS
  have hi : entryOf ⟨j₀.val * 16, by omega⟩ = j₀ := Fin.ext (by show (_ * 16) / 16 = _; omega)
  rw [minus_infinity, masked_row (fun i => live b (entryOf i)) (fun i => dotScore q k b h (page b (entryOf i)) (placeOf i))
    (fun i => v (page b (entryOf i)) (placeOf i) h d) (i₀ := ⟨j₀.val * 16, by omega⟩) (hi.symm ▸ h₀), attended]
  rw [sum_entries (fun j t => (((if live b j then Real.exp (dotScore q k b h (page b j) t) else 0 : ℝ) : EReal) * v (page b j) t h d)),
    sum_entries (fun j t => (if live b j then Real.exp (dotScore q k b h (page b j) t) else 0 : ℝ))]

/-- The reference's result is the attention output of its arguments, the queries and keys finite and every row with a live entry. -/
theorem reference_value (m : (ℓ : Loc nD τ sig) → Buf (Elt Ideal) ℓ) (c : Dev nD)
    {Q : FVec Ideal S8x1x8x64 .f32} {K V : FVec Ideal S128x16x8x64 .f32} {B : IVec S8x64 32} {N : IVec S8x1 32}
    (eQ : m (c.tc.loc main_arg0) = Q) (eK : m (c.tc.loc main_arg1) = K) (eV : m (c.tc.loc main_arg2) = V)
    (eB : m (c.tc.loc main_arg3) = B) (eN : m (c.tc.loc main_arg4) = N)
    {q : Fin 8 → Fin 8 → Fin 64 → ℝ} {k : Fin 128 → Fin 16 → Fin 8 → Fin 64 → ℝ}
    (hQ : ∀ b h l, Q (ix4 b 0 h l) = (q b h l : EReal)) (hK : ∀ P t h l, K (ix4 P t h l) = (k P t h l : EReal))
    (b h : Fin 8) (d : Fin 64) (hN : Live (N (ix2 b 0)) 0) :
    Cert.ReferenceIdeal.Value.res_main_v25 (F := Ideal) m c (ix4 b 0 h d)
      = attended q k (fun P t h l => V (ix4 P t h l)) (fun b => Live (N (ix2 b 0))) (fun b j => pageOf (B (ix2 b j))) b h d := by
  unfold Cert.ReferenceIdeal.Value.res_main_v25
  rw [eQ, eK, eV, eB, eN]
  pointwise []
  refine softmax_row 0 hN _ _ (fun i => gathered_apply V B b (entryOf i) (placeOf i) h d) (fun i => ?_)
  refine Eq.trans ?_ (masked_score hQ hK (N (ix2 b 0)) b h (entryOf i) (placeOf i))
  exact congrArg (fun y => Scalar.select _ (y * Ideal.ofBits .f32 0x3E000000#32) _) (Finset.sum_congr rfl fun l _ =>
    congrArg (Q (ix4 b 0 h l) * ·) (gathered_apply K B b (entryOf i) (placeOf i) h l))

end Cert.Swap

end
-- ==== Proof.Served.lean ====
/-
# What the precondition says

The precondition of the value claim, read back element by element: the queries and the device's keys are finite, every row
has a page, and every live entry of the block table names a page of the pool.
-/
module

public import proofs.«01_k».proof.Proof.Gen.Pre_served_KernelIdeal
public import proofs.«01_k».proof.Proof.Scores
public import Idealize.ShloMosaic.Lib.ReduceAll
public import Idealize.ShloMosaic.Lib.StableHlo.Predicate

@[expose] public section

noncomputable section

namespace Cert.Swap

open Cert.Pre_served_KernelIdeal Cert.Pre_served_KernelIdeal.Gen
open Idealize.ShloMosaic

/-- There is one index of a scalar. -/
instance scalarIdx_subsingleton : Subsingleton S_.Idx := ⟨fun _ _ => funext fun a => a.elim0⟩

/-- An extended real whose absolute value is below infinity is a real. -/
theorem real_of_abs_lt {x : EReal} (h : Ideal.cmp .olt (max x (-x)) (Ideal.ofBits .f32 0x7F800000#32) = 1#1) : x = (x.toReal : EReal) := by
  have h' := (Ideal.cmp_olt_eq_one _ _).mp h
  rw [plus_infinity] at h'
  refine (EReal.coe_toReal (fun e => ?_) (fun e => ?_)).symm
  · subst e; simp at h'
  · subst e; simp at h'

/-- The precondition's truth on one device: finite queries and keys, at least one page for every row, live entries in the pool. -/
theorem served_reads {Q : FVec Ideal S8x1x8x64 .f32} {K V : FVec Ideal S64x16x8x64 .f32} {B : IVec S8x64 32} {N : IVec S8x1 32}
    (H : Cert.Pre_served_KernelIdeal.fn (F := Ideal) Q K V B N = fun _ => 1#1) :
    (∀ i, Q i = ((Q i).toReal : EReal)) ∧ (∀ i, K i = ((K i).toReal : EReal)) ∧ (∀ b, Live (N (ix2 b 0)) 0)
      ∧ ∀ b j, Live (N (ix2 b 0)) j → 0 ≤ (B (ix2 b j)).toInt ∧ (B (ix2 b j)).toInt < 128 := by
  have e := congrFun H ix0
  unfold Cert.Pre_served_KernelIdeal.fn Cert.Pre_served_KernelIdeal.fn_part1 Cert.Pre_served_KernelIdeal.fn_where at e
  obtain ⟨e, eB⟩ := IntOp.andi_eq_one.mp e
  obtain ⟨e, eN⟩ := IntOp.andi_eq_one.mp e
  obtain ⟨eQ, eK⟩ := IntOp.andi_eq_one.mp e
  refine ⟨fun i => ?_, fun i => ?_, fun b => ?_, fun b j hl => ?_⟩
  · exact real_of_abs_lt (Host.reduce_andi_all _ _ _ _ _ eQ i)
  · exact real_of_abs_lt (Host.reduce_andi_all _ _ _ _ _ eK i)
  · have h := Host.reduce_andi_all _ _ _ _ _ eN (ix2 b 0)
    have h' : IntOp.cmpi .sge (N (ix2 b 0)) 1#32 = 1#1 := h
    have h1 := IntOp.cmpi_sge.mp h'
    have h0 : (0#32).toInt < (N (ix2 b 0)).toInt := lt_of_lt_of_le (by decide) h1
    exact BitVec.slt_iff_toInt_lt.mpr h0
  · have h := Host.reduce_andi_all _ _ _ _ _ eB (ix2 b j)
    have h' : Scalar.select (IntOp.cmpi .slt (BitVec.ofNat 32 j.val) (N (ix2 b 0)))
      (IntOp.andi (IntOp.cmpi .sge (B (ix2 b j)) 0#32) (IntOp.cmpi .slt (B (ix2 b j)) 128#32)) 1#1 = 1#1 := by
      pointwise [] at h
      exact h
    have hc : IntOp.cmpi .slt (BitVec.ofNat 32 j.val) (N (ix2 b 0)) = 1#1 := (StableHlo.Predicate.ofBool_eq_one_iff _).mpr hl
    rw [hc, Scalar.select, if_pos (show (1#1 : BitVec 1) = 1 from rfl)] at h'
    obtain ⟨h0, h1⟩ := IntOp.andi_eq_one.mp h'
    exact ⟨IntOp.cmpi_sge.mp h0, IntOp.cmpi_slt.mp h1⟩

end Cert.Swap

end
-- ==== Proof.Algebraic.lean ====
/-
# The kernel computes the reference

Each device holds the whole queries, table and counts and its half of the pool of pages. With the precondition both programs'
results are the attention output of the whole arrays, so every device ends with the reference's result.
-/
module

public import proofs.«01_k».proof.Defs
public import proofs.«01_k».proof.Proof.Run
public import proofs.«01_k».proof.Proof.KernelValue
public import proofs.«01_k».proof.Proof.RefValue
public import proofs.«01_k».proof.Proof.Served
public import Idealize.ShloMosaic.Lib.Layout

@[expose] public section

noncomputable section

namespace Cert.Swap

open Cert.KernelIdeal Cert.KernelIdeal.Gen
open Idealize.ShloMosaic Idealize.SL.Sem

/-- Page `p` of a device's half of the pool is page `poolPage (halfOf c) p` of the pool. -/
theorem half_apply {α : Type} (x : (⟨4, ![128, 16, 8, 64]⟩ : Shape).Idx → α) (c : Dev nD) (p : Fin 64) (t : Fin 16) (h : Fin 8) (l : Fin 64) :
    (Layout.blockN ⟨4, ![64, 16, 8, 64]⟩ ⟨4, ![128, 16, 8, 64]⟩ (Layout.meshBlock [2, 2] ![[0], [], [], []] c) x : (⟨4, ![64, 16, 8, 64]⟩ : Shape).Idx → α) (ix4 p t h l)
      = x (ix4 (poolPage (halfOf c) p) t h l) := by
  rw [Layout.blockN_apply]
  refine congrArg x (funext fun a => Fin.ext ?_)
  rw [Layout.TilesN.idx_val]
  have hc : Layout.meshLin [2, 2] c.val [0] = c.val / 2 := by revert c; decide
  have h0 : Layout.meshLin [2, 2] c.val [] = 0 := by revert c; decide
  have h4 : a = 0 ∨ a = 1 ∨ a = 2 ∨ a = 3 := by revert a; decide
  rcases h4 with rfl | rfl | rfl | rfl
  · show Layout.meshLin [2, 2] c.val [0] * 64 + p.val = c.val / 2 * 64 + p.val
    rw [hc]
  · show Layout.meshLin [2, 2] c.val [] * 16 + t.val = t.val
    rw [h0, Nat.zero_mul, Nat.zero_add]
  · show Layout.meshLin [2, 2] c.val [] * 8 + h.val = h.val
    rw [h0, Nat.zero_mul, Nat.zero_add]
  · show Layout.meshLin [2, 2] c.val [] * 64 + l.val = l.val
    rw [h0, Nat.zero_mul, Nat.zero_add]

/-- Every page of the pool is a page of some device's half. -/
theorem page_covered (P : Fin 128) : ∃ (c : Dev nD) (p : Fin 64), poolPage (halfOf c) p = P := by
  by_cases hP : P.val < 64
  · exact ⟨0, ⟨P.val, hP⟩, Fin.ext (by show 0 / 2 * 64 + P.val = P.val; omega)⟩
  · exact ⟨2, ⟨P.val - 64, by omega⟩, Fin.ext (by show 2 / 2 * 64 + (P.val - 64) = P.val; omega)⟩

/-- Every device of the kernel ends with the reference's result of the whole arrays, when the queries and keys are finite,
    every row has a page and the live entries of the table are in the pool. -/
theorem algebraic : Cert.algebraic_KernelIdeal_ReferenceIdeal_pre_served_KernelIdeal (hKernelIdeal := Cert.KernelIdeal.Gen.facts)
    (hReferenceIdeal := Cert.ReferenceIdeal.Gen.facts) (hPre_served_KernelIdeal := Cert.Pre_served_KernelIdeal.Gen.facts) := by
  intro m g m' g' hp ha
  obtain ⟨Q, eQ⟩ : ∃ x, m' ((Dev.tc (0 : Dev Cert.ReferenceIdeal.nD) : Thread _ _).loc Cert.ReferenceIdeal.main_arg0) = x := ⟨_, rfl⟩
  obtain ⟨K, eK⟩ : ∃ x, m' ((Dev.tc (0 : Dev Cert.ReferenceIdeal.nD) : Thread _ _).loc Cert.ReferenceIdeal.main_arg1) = x := ⟨_, rfl⟩
  obtain ⟨V, eV⟩ : ∃ x, m' ((Dev.tc (0 : Dev Cert.ReferenceIdeal.nD) : Thread _ _).loc Cert.ReferenceIdeal.main_arg2) = x := ⟨_, rfl⟩
  obtain ⟨B, eB⟩ : ∃ x, m' ((Dev.tc (0 : Dev Cert.ReferenceIdeal.nD) : Thread _ _).loc Cert.ReferenceIdeal.main_arg3) = x := ⟨_, rfl⟩
  obtain ⟨N, eN⟩ : ∃ x, m' ((Dev.tc (0 : Dev Cert.ReferenceIdeal.nD) : Thread _ _).loc Cert.ReferenceIdeal.main_arg4) = x := ⟨_, rfl⟩
  simp only [eQ, eK, eV, eB, eN] at ha
  have hr := fun c => served_reads (hp c)
  have hQ : ∀ b h l, Q (ix4 b 0 h l) = ((Q (ix4 b 0 h l)).toReal : EReal) := fun b h l => by
    have := (hr 0).1 (ix4 b 0 h l)
    rw [(ha 0).1] at this; exact this
  have hK : ∀ P t h l, K (ix4 P t h l) = ((K (ix4 P t h l)).toReal : EReal) := fun P t h l => by
    obtain ⟨c, p, rfl⟩ := page_covered P
    have := (hr c).2.1 (ix4 p t h l)
    rw [(ha c).2.1, half_apply] at this; exact this
  have hN : ∀ b, Live (N (ix2 b 0)) 0 := fun b => by
    have := (hr 0).2.2.1 b
    rw [(ha 0).2.2.2.2] at this; exact this
  have hB : ∀ b j, Live (N (ix2 b 0)) j → 0 ≤ (B (ix2 b j)).toInt ∧ (B (ix2 b j)).toInt < 128 := fun b j => by
    have := (hr 0).2.2.2 b j
    rw [(ha 0).2.2.2.2, (ha 0).2.2.2.1] at this; exact this
  have hc : ∀ c, Holds m (fun b h l => (Q (ix4 b 0 h l)).toReal) (fun P t h l => (K (ix4 P t h l)).toReal)
      (fun P t h l => V (ix4 P t h l)) B N c := fun c =>
    { queries := fun b h l => by rw [inQ_eq, (ha c).1]; exact hQ b h l
      keys := fun p t h l => by rw [inK_eq, (ha c).2.1, half_apply]; exact hK _ t h l
      values := fun p t h l => by rw [inV_eq, (ha c).2.2.1, half_apply]
      table := by rw [inB_eq, (ha c).2.2.2.1]
      counts := by rw [inN_eq, (ha c).2.2.2.2]
      inPool := hB
      someLive := hN }
  have hv : ∀ c, result m c = Cert.ReferenceIdeal.Value.res_main_v25 (F := Ideal) m' 0 := fun c => funext fun i => by
    obtain ⟨b, z, h, d, rfl⟩ : ∃ b z h d, i = ix4 b z h d := ⟨i 0, i 1, i 2, i 3, eq_ix4 i⟩
    obtain rfl : z = 0 := Subsingleton.elim _ _
    exact (result_value (hc c) (hc (peer c)) b h d).trans (reference_value m' 0 eQ eK eV eB eN hQ hK b h d (hN b)).symm
  refine ⟨Cert.ReferenceIdeal.Value.res_main_v25 (F := Ideal) m' 0, ?_, ?_⟩
  · exact (θ_run Cert.KernelIdeal.defs _ _).mono (fun _ h c => ⟨(h.1 c).1.trans (hv c), (h.1 c).2⟩) (run_main (F := Ideal) m g)
  · exact (θ_run Cert.ReferenceIdeal.defs _ _).mono (fun _ h => h 0) (Cert.ReferenceIdeal.Value.run (F := Ideal) m' g')

end Cert.Swap

end
-- ==== Proof.lean ====
/-
# The certificate

The frames of the kernel, of its idealization and of the reference, that the idealization is the kernel's own text, and that
the kernel computes the reference's result: each from its own module.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_served_KernelIdeal
public import proofs.«01_k».proof.Proof.Gen.Pre_served_ReferenceIdeal
public import proofs.«01_k».proof.Proof.Frames
public import proofs.«01_k».proof.Proof.Algebraic

@[expose] public section

noncomputable section

namespace Cert.Proof

/-- Everything claimed holds. -/
theorem claim : Cert.Claim := ⟨Cert.Kernel.Gen.facts, Cert.KernelIdeal.Gen.facts, Cert.ReferenceIdeal.Gen.facts,
  Cert.Pre_served_KernelIdeal.Gen.facts, Cert.Pre_served_ReferenceIdeal.Gen.facts,
  Cert.Swap.frame_bits, Cert.Swap.frame_ideal, Cert.Swap.frame_ideal_served, Cert.Swap.frame_reference,
  Cert.Swap.frame_reference_served, trivial, Cert.Swap.algebraic⟩

end Cert.Proof

end
